-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![48, 48, 48]⟩ ⟨3, ![96, 96, 192]⟩ (Layout.meshBlock [2, 2, 4] ![[0], [1], [2]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![48, 48, 48]⟩ ⟨3, ![96, 96, 192]⟩ (Layout.meshBlock [2, 2, 4] ![[0], [1], [2]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S48x48x48 : Shape := ⟨3, ![48, 48, 48]⟩
abbrev S6x48x48 : Shape := ⟨3, ![6, 48, 48]⟩
abbrev S6 : Shape := ⟨1, ![6]⟩
abbrev S_ : Shape := ⟨0, ![]⟩
abbrev S48x1x48 : Shape := ⟨3, ![48, 1, 48]⟩
abbrev S48x48 : Shape := ⟨2, ![48, 48]⟩
abbrev S1x48x48 : Shape := ⟨3, ![1, 48, 48]⟩
abbrev S48x48x1 : Shape := ⟨3, ![48, 48, 1]⟩
abbrev S47x48x48 : Shape := ⟨3, ![47, 48, 48]⟩
abbrev S48x47x48 : Shape := ⟨3, ![48, 47, 48]⟩
abbrev S1 : Shape := ⟨1, ![1]⟩
abbrev S48x48x47 : Shape := ⟨3, ![48, 48, 47]⟩
abbrev S46x48x48 : Shape := ⟨3, ![46, 48, 48]⟩
abbrev S48x46x48 : Shape := ⟨3, ![48, 46, 48]⟩
abbrev S48x48x46 : Shape := ⟨3, ![48, 48, 46]⟩

abbrev nBuf : Space → Nat
  | .hbm => 2
  | .vmem => 4
  | .smem => 0
  | _ => 0

abbrev bufTy : (tb : Table) → Fin (tcTables nBuf tb) → BufTy
  | .hbm, ⟨0, _⟩ => ⟨S48x48x48, .f32⟩
  | .hbm, ⟨1, _⟩ => ⟨S48x48x48, .f32⟩
  | .local _ .vmem, ⟨0, _⟩ => ⟨S48x48x48, .f32⟩
  | .local _ .vmem, ⟨1, _⟩ => ⟨S48x48x48, .f32⟩
  | .local _ .vmem, ⟨2, _⟩ => ⟨S6x48x48, .f32⟩
  | .local _ .vmem, ⟨3, _⟩ => ⟨S6x48x48, .f32⟩
  | _, _ => ⟨S48x48x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_cond1 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .sgt v2 c0_i32
  let v22 : BitVec 32 := Scalar.extui v9
  let c0_i32_12 : BitVec 32 := 0#32
  let v23 : BitVec 1 := Scalar.cmpi .ne v22 c0_i32_12
  v23

def k0_dev1 (d0 : Dev nD) : Nat :=
  let c0_i32_108 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_6 : BitVec 32 := 1#32
  let v15 : BitVec 32 := Scalar.subi v2 c1_i32_6
  let c8_i32_107 : BitVec 32 := 8#32
  let v245 : BitVec 32 := Scalar.muli v15 c8_i32_107
  let v246 : BitVec 32 := Scalar.addi c0_i32_108 v245
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_109 : BitVec 32 := 4#32
  let v247 : BitVec 32 := Scalar.muli v5 c4_i32_109
  let v248 : BitVec 32 := Scalar.addi v246 v247
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_110 : BitVec 32 := 1#32
  let v249 : BitVec 32 := Scalar.muli v8 c1_i32_110
  let v250 : BitVec 32 := Scalar.addi v248 v249
  v250.toNat
def k0_cond2 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_2 : BitVec 32 := 1#32
  let v10 : BitVec 1 := Scalar.cmpi .slt v2 c1_i32_2
  let v24 : BitVec 32 := Scalar.extui v10
  let c0_i32_13 : BitVec 32 := 0#32
  let v25 : BitVec 1 := Scalar.cmpi .ne v24 c0_i32_13
  v25

def k0_dev2 (d0 : Dev nD) : Nat :=
  let c0_i32_108 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_7 : BitVec 32 := 1#32
  let v16 : BitVec 32 := Scalar.addi v2 c1_i32_7
  let c8_i32_107 : BitVec 32 := 8#32
  let v245 : BitVec 32 := Scalar.muli v16 c8_i32_107
  let v246 : BitVec 32 := Scalar.addi c0_i32_108 v245
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_109 : BitVec 32 := 4#32
  let v247 : BitVec 32 := Scalar.muli v5 c4_i32_109
  let v248 : BitVec 32 := Scalar.addi v246 v247
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_110 : BitVec 32 := 1#32
  let v249 : BitVec 32 := Scalar.muli v8 c1_i32_110
  let v250 : BitVec 32 := Scalar.addi v248 v249
  v250.toNat
def k0_cond3 (d0 : Dev nD) : BitVec 1 :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_3 : BitVec 32 := 0#32
  let v11 : BitVec 1 := Scalar.cmpi .sgt v5 c0_i32_3
  let v26 : BitVec 32 := Scalar.extui v11
  let c0_i32_14 : BitVec 32 := 0#32
  let v27 : BitVec 1 := Scalar.cmpi .ne v26 c0_i32_14
  v27

def k0_dev3 (d0 : Dev nD) : Nat :=
  let c0_i32_108 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_107 : BitVec 32 := 8#32
  let v245 : BitVec 32 := Scalar.muli v2 c8_i32_107
  let v246 : BitVec 32 := Scalar.addi c0_i32_108 v245
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_8 : BitVec 32 := 1#32
  let v17 : BitVec 32 := Scalar.subi v5 c1_i32_8
  let c4_i32_109 : BitVec 32 := 4#32
  let v247 : BitVec 32 := Scalar.muli v17 c4_i32_109
  let v248 : BitVec 32 := Scalar.addi v246 v247
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_110 : BitVec 32 := 1#32
  let v249 : BitVec 32 := Scalar.muli v8 c1_i32_110
  let v250 : BitVec 32 := Scalar.addi v248 v249
  v250.toNat
def k0_cond4 (d0 : Dev nD) : BitVec 1 :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_4 : BitVec 32 := 1#32
  let v12 : BitVec 1 := Scalar.cmpi .slt v5 c1_i32_4
  let v28 : BitVec 32 := Scalar.extui v12
  let c0_i32_15 : BitVec 32 := 0#32
  let v29 : BitVec 1 := Scalar.cmpi .ne v28 c0_i32_15
  v29

def k0_dev4 (d0 : Dev nD) : Nat :=
  let c0_i32_108 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_107 : BitVec 32 := 8#32
  let v245 : BitVec 32 := Scalar.muli v2 c8_i32_107
  let v246 : BitVec 32 := Scalar.addi c0_i32_108 v245
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_9 : BitVec 32 := 1#32
  let v18 : BitVec 32 := Scalar.addi v5 c1_i32_9
  let c4_i32_109 : BitVec 32 := 4#32
  let v247 : BitVec 32 := Scalar.muli v18 c4_i32_109
  let v248 : BitVec 32 := Scalar.addi v246 v247
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_110 : BitVec 32 := 1#32
  let v249 : BitVec 32 := Scalar.muli v8 c1_i32_110
  let v250 : BitVec 32 := Scalar.addi v248 v249
  v250.toNat
def k0_cond5 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_5 : BitVec 32 := 0#32
  let v13 : BitVec 1 := Scalar.cmpi .sgt v8 c0_i32_5
  let v30 : BitVec 32 := Scalar.extui v13
  let c0_i32_16 : BitVec 32 := 0#32
  let v31 : BitVec 1 := Scalar.cmpi .ne v30 c0_i32_16
  v31

def k0_dev5 (d0 : Dev nD) : Nat :=
  let c0_i32_108 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_107 : BitVec 32 := 8#32
  let v245 : BitVec 32 := Scalar.muli v2 c8_i32_107
  let v246 : BitVec 32 := Scalar.addi c0_i32_108 v245
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_109 : BitVec 32 := 4#32
  let v247 : BitVec 32 := Scalar.muli v5 c4_i32_109
  let v248 : BitVec 32 := Scalar.addi v246 v247
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v19 : BitVec 32 := Scalar.subi v8 c1_i32_10
  let c1_i32_110 : BitVec 32 := 1#32
  let v249 : BitVec 32 := Scalar.muli v19 c1_i32_110
  let v250 : BitVec 32 := Scalar.addi v248 v249
  v250.toNat
def k0_cond6 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v14 : BitVec 1 := Scalar.cmpi .slt v8 c3_i32
  let v32 : BitVec 32 := Scalar.extui v14
  let c0_i32_17 : BitVec 32 := 0#32
  let v33 : BitVec 1 := Scalar.cmpi .ne v32 c0_i32_17
  v33

def k0_dev6 (d0 : Dev nD) : Nat :=
  let c0_i32_108 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_107 : BitVec 32 := 8#32
  let v245 : BitVec 32 := Scalar.muli v2 c8_i32_107
  let v246 : BitVec 32 := Scalar.addi c0_i32_108 v245
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_109 : BitVec 32 := 4#32
  let v247 : BitVec 32 := Scalar.muli v5 c4_i32_109
  let v248 : BitVec 32 := Scalar.addi v246 v247
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_11 : BitVec 32 := 1#32
  let v20 : BitVec 32 := Scalar.addi v8 c1_i32_11
  let c1_i32_110 : BitVec 32 := 1#32
  let v249 : BitVec 32 := Scalar.muli v20 c1_i32_110
  let v250 : BitVec 32 := Scalar.addi v248 v249
  v250.toNat
def k0_amt1 (d0 : Dev nD) : BitVec 32 :=
  let c2_i32_31 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_30 : BitVec 32 := 0#32
  let v72 : BitVec 1 := Scalar.cmpi .sgt v8 c0_i32_30
  let v73 : BitVec 32 := Scalar.extui v72
  let v74 : BitVec 32 := Scalar.addi c2_i32_31 v73
  let c3_i32_32 : BitVec 32 := 3#32
  let v75 : BitVec 1 := Scalar.cmpi .slt v8 c3_i32_32
  let v76 : BitVec 32 := Scalar.extui v75
  let v77 : BitVec 32 := Scalar.addi v74 v76
  v77

def k0_cond7 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .sgt v2 c0_i32
  let v78 : BitVec 32 := Scalar.extui v9
  let c0_i32_34 : BitVec 32 := 0#32
  let v79 : BitVec 1 := Scalar.cmpi .ne v78 c0_i32_34
  v79

def k0_dev7 (d0 : Dev nD) : Nat :=
  let c0_i32_110 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_6 : BitVec 32 := 1#32
  let v15 : BitVec 32 := Scalar.subi v2 c1_i32_6
  let c8_i32_109 : BitVec 32 := 8#32
  let v245 : BitVec 32 := Scalar.muli v15 c8_i32_109
  let v246 : BitVec 32 := Scalar.addi c0_i32_110 v245
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_111 : BitVec 32 := 4#32
  let v247 : BitVec 32 := Scalar.muli v5 c4_i32_111
  let v248 : BitVec 32 := Scalar.addi v246 v247
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_112 : BitVec 32 := 1#32
  let v249 : BitVec 32 := Scalar.muli v8 c1_i32_112
  let v250 : BitVec 32 := Scalar.addi v248 v249
  v250.toNat
def k0_cond8 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_2 : BitVec 32 := 1#32
  let v10 : BitVec 1 := Scalar.cmpi .slt v2 c1_i32_2
  let v80 : BitVec 32 := Scalar.extui v10
  let c0_i32_35 : BitVec 32 := 0#32
  let v81 : BitVec 1 := Scalar.cmpi .ne v80 c0_i32_35
  v81

def k0_dev8 (d0 : Dev nD) : Nat :=
  let c0_i32_110 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_7 : BitVec 32 := 1#32
  let v16 : BitVec 32 := Scalar.addi v2 c1_i32_7
  let c8_i32_109 : BitVec 32 := 8#32
  let v245 : BitVec 32 := Scalar.muli v16 c8_i32_109
  let v246 : BitVec 32 := Scalar.addi c0_i32_110 v245
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_111 : BitVec 32 := 4#32
  let v247 : BitVec 32 := Scalar.muli v5 c4_i32_111
  let v248 : BitVec 32 := Scalar.addi v246 v247
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_112 : BitVec 32 := 1#32
  let v249 : BitVec 32 := Scalar.muli v8 c1_i32_112
  let v250 : BitVec 32 := Scalar.addi v248 v249
  v250.toNat
def k0_cond9 (d0 : Dev nD) : BitVec 1 :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_3 : BitVec 32 := 0#32
  let v11 : BitVec 1 := Scalar.cmpi .sgt v5 c0_i32_3
  let v82 : BitVec 32 := Scalar.extui v11
  let c0_i32_37 : BitVec 32 := 0#32
  let v83 : BitVec 1 := Scalar.cmpi .ne v82 c0_i32_37
  v83

def k0_dev9 (d0 : Dev nD) : Nat :=
  let c0_i32_110 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_109 : BitVec 32 := 8#32
  let v245 : BitVec 32 := Scalar.muli v2 c8_i32_109
  let v246 : BitVec 32 := Scalar.addi c0_i32_110 v245
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_8 : BitVec 32 := 1#32
  let v17 : BitVec 32 := Scalar.subi v5 c1_i32_8
  let c4_i32_111 : BitVec 32 := 4#32
  let v247 : BitVec 32 := Scalar.muli v17 c4_i32_111
  let v248 : BitVec 32 := Scalar.addi v246 v247
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_112 : BitVec 32 := 1#32
  let v249 : BitVec 32 := Scalar.muli v8 c1_i32_112
  let v250 : BitVec 32 := Scalar.addi v248 v249
  v250.toNat
def k0_cond10 (d0 : Dev nD) : BitVec 1 :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_4 : BitVec 32 := 1#32
  let v12 : BitVec 1 := Scalar.cmpi .slt v5 c1_i32_4
  let v84 : BitVec 32 := Scalar.extui v12
  let c0_i32_39 : BitVec 32 := 0#32
  let v85 : BitVec 1 := Scalar.cmpi .ne v84 c0_i32_39
  v85

def k0_dev10 (d0 : Dev nD) : Nat :=
  let c0_i32_110 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_109 : BitVec 32 := 8#32
  let v245 : BitVec 32 := Scalar.muli v2 c8_i32_109
  let v246 : BitVec 32 := Scalar.addi c0_i32_110 v245
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_9 : BitVec 32 := 1#32
  let v18 : BitVec 32 := Scalar.addi v5 c1_i32_9
  let c4_i32_111 : BitVec 32 := 4#32
  let v247 : BitVec 32 := Scalar.muli v18 c4_i32_111
  let v248 : BitVec 32 := Scalar.addi v246 v247
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_112 : BitVec 32 := 1#32
  let v249 : BitVec 32 := Scalar.muli v8 c1_i32_112
  let v250 : BitVec 32 := Scalar.addi v248 v249
  v250.toNat
def k0_cond11 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_5 : BitVec 32 := 0#32
  let v13 : BitVec 1 := Scalar.cmpi .sgt v8 c0_i32_5
  let v86 : BitVec 32 := Scalar.extui v13
  let c0_i32_41 : BitVec 32 := 0#32
  let v87 : BitVec 1 := Scalar.cmpi .ne v86 c0_i32_41
  v87

def k0_dev11 (d0 : Dev nD) : Nat :=
  let c0_i32_110 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_109 : BitVec 32 := 8#32
  let v245 : BitVec 32 := Scalar.muli v2 c8_i32_109
  let v246 : BitVec 32 := Scalar.addi c0_i32_110 v245
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_111 : BitVec 32 := 4#32
  let v247 : BitVec 32 := Scalar.muli v5 c4_i32_111
  let v248 : BitVec 32 := Scalar.addi v246 v247
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v19 : BitVec 32 := Scalar.subi v8 c1_i32_10
  let c1_i32_112 : BitVec 32 := 1#32
  let v249 : BitVec 32 := Scalar.muli v19 c1_i32_112
  let v250 : BitVec 32 := Scalar.addi v248 v249
  v250.toNat
def k0_cond12 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v14 : BitVec 1 := Scalar.cmpi .slt v8 c3_i32
  let v88 : BitVec 32 := Scalar.extui v14
  let c0_i32_42 : BitVec 32 := 0#32
  let v89 : BitVec 1 := Scalar.cmpi .ne v88 c0_i32_42
  v89

def k0_dev12 (d0 : Dev nD) : Nat :=
  let c0_i32_110 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_109 : BitVec 32 := 8#32
  let v245 : BitVec 32 := Scalar.muli v2 c8_i32_109
  let v246 : BitVec 32 := Scalar.addi c0_i32_110 v245
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_111 : BitVec 32 := 4#32
  let v247 : BitVec 32 := Scalar.muli v5 c4_i32_111
  let v248 : BitVec 32 := Scalar.addi v246 v247
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_11 : BitVec 32 := 1#32
  let v20 : BitVec 32 := Scalar.addi v8 c1_i32_11
  let c1_i32_112 : BitVec 32 := 1#32
  let v249 : BitVec 32 := Scalar.muli v20 c1_i32_112
  let v250 : BitVec 32 := Scalar.addi v248 v249
  v250.toNat
abbrev stage0_0 : Fin 1 → Memref sig .tc .vmem S48x48x48 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S48x48x48 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S96x96x192 : Shape := ⟨3, ![96, 96, 192]⟩
abbrev S94x94x190 : Shape := ⟨3, ![94, 94, 190]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S96x96x192, .f32⟩
  | .hbm, ⟨1, _⟩ => ⟨S94x94x190, .f32⟩
  | .hbm, ⟨2, _⟩ => ⟨S94x94x190, .f32⟩
  | .hbm, ⟨3, _⟩ => ⟨S94x94x190, .f32⟩
  | .hbm, ⟨4, _⟩ => ⟨S94x94x190, .f32⟩
  | .hbm, ⟨5, _⟩ => ⟨S94x94x190, .f32⟩
  | .hbm, ⟨6, _⟩ => ⟨S94x94x190, .f32⟩
  | .hbm, ⟨7, _⟩ => ⟨S94x94x190, .f32⟩
  | .hbm, ⟨8, _⟩ => ⟨S94x94x190, .f32⟩
  | .hbm, ⟨9, _⟩ => ⟨S94x94x190, .f32⟩
  | .hbm, ⟨10, _⟩ => ⟨S94x94x190, .f32⟩
  | .hbm, ⟨11, _⟩ => ⟨S94x94x190, .f32⟩
  | .hbm, ⟨12, _⟩ => ⟨S94x94x190, .f32⟩
  | .hbm, ⟨13, _⟩ => ⟨S_, .f32⟩
  | .hbm, ⟨14, _⟩ => ⟨S94x94x190, .f32⟩
  | .hbm, ⟨15, _⟩ => ⟨S94x94x190, .f32⟩
  | .hbm, ⟨16, _⟩ => ⟨S94x94x190, .f32⟩
  | .hbm, ⟨17, _⟩ => ⟨S_, .i32⟩
  | .hbm, ⟨18, _⟩ => ⟨S_, .f32⟩
  | .hbm, ⟨19, _⟩ => ⟨S96x96x192, .f32⟩
  | _, _ => ⟨S96x96x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_cst : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_c : Ref sig .tc := ⟨.hbm, 17, rfl⟩
abbrev main_call0_v0 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== Proof.Mesh.lean ====
/-
# The mesh: six directions, who sits where, and which device a step talks to

The sixteen devices stand on a 2 × 2 × 4 grid. A device has up to six neighbours; direction `d` is one of
`x−, x+, y−, y+, z−, z+` (0 to 5). `Has c d` says device `c` has a neighbour in direction `d`, `nbr c d` names it (taken
round the torus where there is none, so that `nbr` is total and a permutation for each direction), and `opp d` is the
direction back. The kernel computes the same conditions and the same device numbers from its own id; the lemmas here say so.
-/
module

public import proofs.«01_k».proof.Proof.Gen.KernelIdeal
public import proofs.«01_k».proof.Proof.Gen.KernelIdeal.Skeleton
public import proofs.«01_k».proof.Proof.Gen.KernelIdeal.Launch

@[expose] public section

noncomputable section

namespace Cert.Halo

open Cert.KernelIdeal Cert.KernelIdeal.Gen
open Idealize.ShloMosaic

/-- A direction: x−, x+, y−, y+, z−, z+. -/
abbrev Dir : Type := Fin 6

/-- The direction back. -/
def opp : Dir → Dir := ![1, 0, 3, 2, 5, 4]

theorem opp_opp (d : Dir) : opp (opp d) = d := by revert d; decide

/-- Whether a device has a neighbour in a direction, as a truth value: its coordinate is not the last one that way. -/
def has (c : Dev nD) : Dir → Bool :=
  ![decide (8 ≤ c.val), decide (c.val < 8), decide (4 ≤ c.val % 8), decide (c.val % 8 < 4),
    decide (0 < c.val % 4), decide (c.val % 4 < 3)]

/-- Device `c` has a neighbour in direction `d`. -/
abbrev Has (c : Dev nD) (d : Dir) : Prop := has c d = true

/-- The number of the neighbour in a direction, taken round the torus. -/
def nbrVal (c : ℕ) : Dir → ℕ :=
  ![(c + 8) % 16, (c + 8) % 16, c / 8 * 8 + (c + 4) % 8, c / 8 * 8 + (c + 4) % 8, c / 4 * 4 + (c + 3) % 4,
    c / 4 * 4 + (c + 1) % 4]

theorem nbrVal_lt : ∀ (c : Dev nD) (d : Dir), nbrVal c.val d < nD := by decide +kernel

/-- The neighbour in a direction, taken round the torus. -/
def nbr (c : Dev nD) (d : Dir) : Dev nD := ⟨nbrVal c.val d, nbrVal_lt c d⟩

theorem nbr_opp : ∀ (c : Dev nD) (d : Dir), nbr (nbr c d) (opp d) = c := by decide +kernel
theorem opp_nbr (c : Dev nD) (d : Dir) : nbr (nbr c (opp d)) d = c := by
  have h := nbr_opp c (opp d); rwa [opp_opp] at h
theorem has_opp : ∀ (c : Dev nD) (d : Dir), has (nbr c d) (opp d) = has c d := by decide +kernel
theorem opp_has (c : Dev nD) (d : Dir) : has (nbr c (opp d)) d = has c (opp d) := by
  have h := has_opp c (opp d); rwa [opp_opp] at h

/-- The six bits the kernel computes from its coordinates: whether there is a neighbour in each direction. -/
def bit (c : Dev nD) : Dir → BitVec 1 :=
  ![Scalar.cmpi .sgt (Scalar.remsi (Scalar.divsi (Dev.word c) 8#32) 2#32) 0#32,
    Scalar.cmpi .slt (Scalar.remsi (Scalar.divsi (Dev.word c) 8#32) 2#32) 1#32,
    Scalar.cmpi .sgt (Scalar.remsi (Scalar.divsi (Dev.word c) 4#32) 2#32) 0#32,
    Scalar.cmpi .slt (Scalar.remsi (Scalar.divsi (Dev.word c) 4#32) 2#32) 1#32,
    Scalar.cmpi .sgt (Scalar.remsi (Scalar.divsi (Dev.word c) 1#32) 4#32) 0#32,
    Scalar.cmpi .slt (Scalar.remsi (Scalar.divsi (Dev.word c) 1#32) 4#32) 3#32]

theorem bit_iff : ∀ (c : Dev nD) (d : Dir), bit c d = 1#1 ↔ Has c d := by decide +kernel
theorem bit_eq (c : Dev nD) (d : Dir) : bit c d = if Has c d then 1#1 else 0#1 := by
  by_cases h : Has c d
  · rw [if_pos h]; exact (bit_iff c d).mpr h
  · rw [if_neg h]
    have h1 : bit c d ≠ 1#1 := fun e => h ((bit_iff c d).mp e)
    generalize bit c d = b at h1
    revert b; decide

/-- The condition of the kernel's branches on a bit. -/
theorem ext_iff : ∀ (c : Dev nD) (d : Dir), Scalar.cmpi .ne (Scalar.extui (bit c d) : BitVec 32) 0#32 = 1#1 ↔ Has c d := by
  decide +kernel

/-! ## The kernel's conditions on its own id -/

theorem cond_sig0 : ∀ c : Dev nD, k0_cond1 c = 1#1 ↔ Has c 0 := by decide +kernel
theorem cond_sig1 : ∀ c : Dev nD, k0_cond2 c = 1#1 ↔ Has c 1 := by decide +kernel
theorem cond_sig2 : ∀ c : Dev nD, k0_cond3 c = 1#1 ↔ Has c 2 := by decide +kernel
theorem cond_sig3 : ∀ c : Dev nD, k0_cond4 c = 1#1 ↔ Has c 3 := by decide +kernel
theorem cond_sig4 : ∀ c : Dev nD, k0_cond5 c = 1#1 ↔ Has c 4 := by decide +kernel
theorem cond_sig5 : ∀ c : Dev nD, k0_cond6 c = 1#1 ↔ Has c 5 := by decide +kernel
theorem cond_send0 : ∀ c : Dev nD, k0_cond7 c = 1#1 ↔ Has c 0 := by decide +kernel
theorem cond_send1 : ∀ c : Dev nD, k0_cond8 c = 1#1 ↔ Has c 1 := by decide +kernel
theorem cond_send2 : ∀ c : Dev nD, k0_cond9 c = 1#1 ↔ Has c 2 := by decide +kernel
theorem cond_send3 : ∀ c : Dev nD, k0_cond10 c = 1#1 ↔ Has c 3 := by decide +kernel
theorem cond_send4 : ∀ c : Dev nD, k0_cond11 c = 1#1 ↔ Has c 4 := by decide +kernel
theorem cond_send5 : ∀ c : Dev nD, k0_cond12 c = 1#1 ↔ Has c 5 := by decide +kernel

/-! ## The devices addressed -/

theorem dev_sig0 : ∀ c : Dev nD, k0_cond1 c = 1#1 → k0_dev1 c = nbrVal c.val 0 := by decide +kernel
theorem dev_sig1 : ∀ c : Dev nD, k0_cond2 c = 1#1 → k0_dev2 c = nbrVal c.val 1 := by decide +kernel
theorem dev_sig2 : ∀ c : Dev nD, k0_cond3 c = 1#1 → k0_dev3 c = nbrVal c.val 2 := by decide +kernel
theorem dev_sig3 : ∀ c : Dev nD, k0_cond4 c = 1#1 → k0_dev4 c = nbrVal c.val 3 := by decide +kernel
theorem dev_sig4 : ∀ c : Dev nD, k0_cond5 c = 1#1 → k0_dev5 c = nbrVal c.val 4 := by decide +kernel
theorem dev_sig5 : ∀ c : Dev nD, k0_cond6 c = 1#1 → k0_dev6 c = nbrVal c.val 5 := by decide +kernel
theorem dev_send0 : ∀ c : Dev nD, k0_cond7 c = 1#1 → k0_dev7 c = nbrVal c.val 0 := by decide +kernel
theorem dev_send1 : ∀ c : Dev nD, k0_cond8 c = 1#1 → k0_dev8 c = nbrVal c.val 1 := by decide +kernel
theorem dev_send2 : ∀ c : Dev nD, k0_cond9 c = 1#1 → k0_dev9 c = nbrVal c.val 2 := by decide +kernel
theorem dev_send3 : ∀ c : Dev nD, k0_cond10 c = 1#1 → k0_dev10 c = nbrVal c.val 3 := by decide +kernel
theorem dev_send4 : ∀ c : Dev nD, k0_cond11 c = 1#1 → k0_dev11 c = nbrVal c.val 4 := by decide +kernel
theorem dev_send5 : ∀ c : Dev nD, k0_cond12 c = 1#1 → k0_dev12 c = nbrVal c.val 5 := by decide +kernel

/-- The number of neighbours a device has. -/
def deg (c : Dev nD) : ℕ := (Finset.univ.filter (fun d : Dir => Has c d)).card

/-- What the kernel waits for at the barrier is the number of its neighbours. -/
theorem amt_eq : ∀ c : Dev nD, (k0_amt1 c).toInt = (deg c : ℤ) := by decide +kernel

end Cert.Halo

end
-- ==== Proof.Protocol.lean ====
/-
# The protocol of the halo exchange: buffers, cells, rounds, payloads, dues

Every device has thirteen cells: its barrier semaphore, six send semaphores and six receive semaphores. All that happens
on them is one round.

* Barrier: each neighbour in direction `e` gives one unit, and with it the plane of ITS halo that the receiving device is
  going to write (the neighbour's plane of the direction back). The device waits for one unit per neighbour.
* Send, direction `d`: the transfer's own completion; it returns the source plane, still holding the face that was sent.
* Receive, direction `d`: the neighbour's transfer landing; it hands over halo plane `d` holding that neighbour's face of the
  direction back.

A device owes its neighbours the barrier units and the landings; a wait is allowed while everything owed sits on a cell of a
higher level, the barrier cells at 1, the receive cells at 2 and all others at 0.
-/
module

public import proofs.«01_k».proof.Proof.Mesh
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra: the pipeline's copy and the exchange's, whose duties are named by directions. -/
abbrev UB : Type := URounds (GSem nD τ sig) Dir
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every counter zero. -/
def s₀ : MemSt nD τ sig (Elt F) := ⟨m, fun _ => 0, ρ⟩

abbrev 𝒱₀ : Variants := Variants.none

/-! ## Buffers and planes -/

abbrev xM : Memref sig .tc .vmem S48x48x48 .f32 := Memref.whole cc0_stg0_0
abbrev oM : Memref sig .tc .vmem S48x48x48 .f32 := Memref.whole cc0_stg1_0
abbrev tM : Memref sig .tc .vmem S6x48x48 .f32 := Memref.whole cc0_scratch0
abbrev hM : Memref sig .tc .vmem S6x48x48 .f32 := Memref.whole cc0_scratch1

theorem inbP (d : Dir) : ∀ a, (![d.val, 0, 0] : Fin 3 → ℕ) a + S1x48x48.size a ≤ S6x48x48.size a := by
  have := d.isLt; intro a; fin_cases a
  · show d.val + 1 ≤ 6; omega
  · exact Nat.le_refl 48
  · exact Nat.le_refl 48
theorem inbS (d : Dir) : ∀ a, (![d.val] : Fin 1 → ℕ) a + S1.size a ≤ S6.size a := by
  have := d.isLt; intro a; fin_cases a
  show d.val + 1 ≤ 6; omega

/-- Plane `d` of a six-plane buffer, as a rectangle. -/
abbrev rP (d : Dir) : Rect S6x48x48 := Rect.unit (s := S6x48x48) ![d.val, 0, 0] S1x48x48.size (inbP d)

/-- Plane `d` of the halo buffer and of the staging buffer. -/
abbrev haloM (d : Dir) : Memref sig .tc .vmem S48x48 .f32 :=
  (hM.slice (rP d) (fun _ => rfl)).squeeze S48x48 squeezes_S1x48x48_S48x48
abbrev stageM (d : Dir) : Memref sig .tc .vmem S48x48 .f32 :=
  (tM.slice (rP d) (fun _ => rfl)).squeeze S48x48 squeezes_S1x48x48_S48x48

/-- The first and the last plane of the block itself. -/
abbrev rLo : Rect S48x48x48 := Rect.unit (s := S48x48x48) ![0, 0, 0] S1x48x48.size inb_S48x48x48_S1x48x48_0_0_0
abbrev rHi : Rect S48x48x48 := Rect.unit (s := S48x48x48) ![47, 0, 0] S1x48x48.size inb_S48x48x48_S1x48x48_47_0_0
abbrev xLo : Memref sig .tc .vmem S48x48 .f32 := (xM.slice rLo (fun _ => rfl)).squeeze S48x48 squeezes_S1x48x48_S48x48
abbrev xHi : Memref sig .tc .vmem S48x48 .f32 := (xM.slice rHi (fun _ => rfl)).squeeze S48x48 squeezes_S1x48x48_S48x48

/-- What the send of direction `d` reads: a plane of the block for x∓, a staged plane for the others. -/
def srcM : Dir → Memref sig .tc .vmem S48x48 .f32 := ![xLo, xHi, stageM 2, stageM 3, stageM 4, stageM 5]

/-- The barrier semaphore; the send and receive semaphore of a direction. -/
abbrev barS : Sem sig := (SemArray.scalar (sig.barrier 0 rfl) : Sems sig S_).sem
abbrev sendS (d : Dir) : DmaSem sig :=
  ((cc0_scratch2.slice (Rect.unit (s := S6) ![d.val] S1.size (inbS d))).squeeze S_ squeezes_S1_S_).sem
abbrev recvS (d : Dir) : DmaSem sig :=
  ((cc0_scratch3.slice (Rect.unit (s := S6) ![d.val] S1.size (inbS d))).squeeze S_ squeezes_S1_S_).sem

abbrev barCell (c : Dev nD) : GSem nD τ sig := ((c : Thread nD τ), .reg barS)
abbrev sendCell (c : Dev nD) (d : Dir) : GSem nD τ sig := ((c : Thread nD τ), .dma (sendS d))
abbrev recvCell (c : Dev nD) (d : Dir) : GSem nD τ sig := ((c : Thread nD τ), .dma (recvS d))

/-- The kernel's own semaphores, by kind (`true` receives) and direction; -/
abbrev osem (bd : Bool × Dir) : SemLoc sig := if bd.1 then .dma (recvS bd.2) else .dma (sendS bd.2)
/-- and with the barrier semaphore, all thirteen of a device. -/
abbrev Role : Type := Option (Bool × Dir)
abbrev csem : Role → SemLoc sig
  | none => .reg barS
  | some (true, d) => .dma (recvS d)
  | some (false, d) => .dma (sendS d)
abbrev kcell (ck : Dev nD × Role) : GSem nD τ sig := ((ck.1 : Thread nD τ), csem ck.2)

/-- All thirteen roles. -/
def roles : List Role := none :: ((List.finRange 6).map fun d => some (false, d)) ++ ((List.finRange 6).map fun d => some (true, d))

/-- Which of the thirteen a semaphore is, if any. -/
def role (sm : SemLoc sig) : Option Role := roles.find? fun k => csem k = sm

theorem role_csem : ∀ k : Role, role (csem k) = some k := by decide +kernel
theorem role_bar : role (.reg barS) = some none := role_csem none
theorem role_send (d : Dir) : role (.dma (sendS d)) = some (some (false, d)) := role_csem (some (false, d))
theorem role_recv (d : Dir) : role (.dma (recvS d)) = some (some (true, d)) := role_csem (some (true, d))

theorem csem_injective : Function.Injective csem := fun k k' h => by
  have := role_csem k; rw [h, role_csem k'] at this; exact (Option.some.inj this).symm

/-- The credit of one plane. -/
abbrev N : ℕ := (haloM 0).view.dmaCredit
theorem N_pos : 0 < N := View.dmaCredit_pos _ (by decide)

/-! ## Contents -/

/-- The block of the argument a device holds. -/
def xstg (c : Dev nD) : (cc0_stg0_0 : Ref sig .tc).ty.Contents (Elt F) :=
  (win0_0.blk (0 : Fin 1)).view.read (Elt F) ((s₀ m ρ).mem ((c : Thread nD τ).loc main_arg0))

/-- The six faces of a block, as the kernel takes them. -/
def faceOf (x : (cc0_stg0_0 : Ref sig .tc).ty.Contents (Elt F)) : Dir → Vec F S48x48 .f32 :=
  ![xLo.view.read (Elt F) x, xHi.view.read (Elt F) x,
    shapeCast S48x48 (k0_pay3 x) shapeCasts_S1x48x48_S48x48, shapeCast S48x48 (k0_pay4 x) shapeCasts_S1x48x48_S48x48,
    shapeCast S48x48 (k0_pay5 x) shapeCasts_S1x48x48_S48x48, shapeCast S48x48 (k0_pay6 x) shapeCasts_S1x48x48_S48x48]

/-- The face of device `c`'s block in direction `d`. -/
def face (c : Dev nD) (d : Dir) : Vec F S48x48 .f32 := faceOf (xstg m ρ c) d

/-- Ownership of one plane of the halo buffer, and of the source plane of a send, at given contents. -/
def haloPts (c : Dev nD) (d : Dir) (f : Buf (Elt F) ((haloM d).view.loc (c : Thread nD τ))) : sProp 𝕄 :=
  (haloM d).view.loc (c : Thread nD τ) ↦[(haloM d).view.set]{fullShare} f
def srcPts (c : Dev nD) (d : Dir) (f : Buf (Elt F) ((srcM d).view.loc (c : Thread nD τ))) : sProp 𝕄 :=
  (srcM d).view.loc (c : Thread nD τ) ↦[(srcM d).view.set]{fullShare} f

/-- The halo plane of direction `d`, at whatever it holds. -/
def haloAny (c : Dev nD) (d : Dir) : sProp 𝕄 := iprop(∃ f, haloPts c d f)

omit [FloatOps F] in
instance haloPts_storable (c : Dev nD) (d : Dir) (f) : BI.Storable (upEmb : UEmb _ 𝕄) (haloPts (F := F) c d f) := by
  unfold haloPts; infer_instance
omit [FloatOps F] in
instance srcPts_storable (c : Dev nD) (d : Dir) (f) : BI.Storable (upEmb : UEmb _ 𝕄) (srcPts (F := F) c d f) := by
  unfold srcPts; infer_instance

/-! ## The rounds -/

/-- The neighbour in direction `e` hands over its halo plane of the direction back. -/
def barPay (c : Dev nD) (e : Dir) : sProp 𝕄 := haloAny (nbr c e) (opp e)
/-- A send returns its source plane, holding the face of its direction. -/
def sendPay (c : Dev nD) (d : Dir) : sProp 𝕄 :=
  iprop(∃ f, ⌜(srcM d).view.read (Elt F) f = face m ρ c d⌝ ∗ srcPts c d f)
/-- A landing hands over the halo plane, holding the neighbour's face of the direction back. -/
def recvPay (c : Dev nD) (d : Dir) : sProp 𝕄 :=
  iprop(∃ f, ⌜(haloM d).view.read (Elt F) f = face m ρ (nbr c d) (opp d)⌝ ∗ haloPts c d f)

/-- The duties of a cell by its role: a barrier cell one per neighbour, a send or receive cell one if there is the
    neighbour. -/
def dutiesOf (c : Dev nD) : Option Role → Finset Dir
  | some none => Finset.univ.filter fun d => Has c d
  | some (some (_, d)) => if Has c d then {0} else ∅
  | none => ∅

/-- What each hands over. -/
def payOf (c : Dev nD) : Option Role → Dir → sProp 𝕄
  | some none, e => barPay c e
  | some (some (true, d)), _ => recvPay m ρ c d
  | some (some (false, d)), _ => sendPay m ρ c d
  | none, _ => iprop(emp)

/-- The units each gives. -/
def unitsOf : Option Role → ℕ
  | some none => 1
  | _ => N

/-- The schedule: one round, on TensorCores' cells only. -/
def rd : Rounds.Schedule (GSem nD τ sig) Dir 𝕄 where
  duties g r := if r = 0 ∧ g.1.2 = .tc then dutiesOf g.1.1 (role g.2) else ∅
  unitless _ := False
  amount g _ _ := unitsOf (role g.2)
  payload g _ e := payOf m ρ g.1.1 (role g.2) e
  amount_pos g _ _ _ := by
    match role g.2 with
    | some none => exact Nat.one_pos
    | some (some _) => exact N_pos
    | none => exact N_pos

instance rd_payload_storable (g : GSem nD τ sig) (r : ℕ) (e : Dir) :
    BI.Storable (upEmb : UEmb _ 𝕄) ((rd (F := F) m ρ).payload g r e) := by
  show BI.Storable upEmb (payOf m ρ g.1.1 (role g.2) e)
  match role g.2 with
  | some none => show BI.Storable upEmb (barPay g.1.1 e); unfold barPay haloAny; infer_instance
  | some (some (true, d)) => show BI.Storable upEmb (recvPay m ρ g.1.1 d); unfold recvPay; infer_instance
  | some (some (false, d)) => show BI.Storable upEmb (sendPay m ρ g.1.1 d); unfold sendPay; infer_instance
  | none => show BI.Storable upEmb (iprop(emp)); infer_instance

section Tables
variable (c : Dev nD) (d e : Dir)

theorem duties_bar : (rd (F := F) m ρ).duties (barCell c) 0 = Finset.univ.filter fun d => Has c d := by
  dsimp only [rd]; rw [if_pos ⟨rfl, rfl⟩, role_bar]; rfl
theorem duties_send : (rd (F := F) m ρ).duties (sendCell c d) 0 = if Has c d then {0} else ∅ := by
  dsimp only [rd]; rw [if_pos ⟨rfl, rfl⟩, role_send]; rfl
theorem duties_recv : (rd (F := F) m ρ).duties (recvCell c d) 0 = if Has c d then {0} else ∅ := by
  dsimp only [rd]; rw [if_pos ⟨rfl, rfl⟩, role_recv]; rfl
theorem duties_later (g : GSem nD τ sig) : ∀ r, 1 ≤ r → (rd (F := F) m ρ).duties g r = ∅ :=
  fun r hr => by dsimp only [rd]; rw [if_neg fun h => by omega]
/-- A transfer cell without the neighbour has no duty at all. -/
theorem duties_none (b : Bool) (h : ¬ Has c d) :
    ∀ r, 0 ≤ r → (rd (F := F) m ρ).duties (kcell (c, some (b, d))) r = ∅ := fun r _ => by
  dsimp only [rd]; rw [role_csem]
  by_cases hr : r = 0
  · rw [if_pos ⟨hr, rfl⟩]; exact if_neg h
  · rw [if_neg fun h => hr h.1]

theorem amount_bar : (rd (F := F) m ρ).amount (barCell c) 0 e = 1 := by dsimp only [rd]; rw [role_bar]; rfl
theorem amount_send : (rd (F := F) m ρ).amount (sendCell c d) 0 e = N := by dsimp only [rd]; rw [role_send]; rfl
theorem amount_recv : (rd (F := F) m ρ).amount (recvCell c d) 0 e = N := by dsimp only [rd]; rw [role_recv]; rfl

theorem expect_bar : (rd (F := F) m ρ).expect (barCell c) 0 = deg c := by
  unfold Schedule.expect Schedule.amountOf
  rw [duties_bar, Finset.sum_congr rfl fun d _ => amount_bar m ρ c d, Finset.sum_const, smul_eq_mul, mul_one]; rfl
theorem expect_send (h : Has c d) : (rd (F := F) m ρ).expect (sendCell c d) 0 = N := by
  unfold Schedule.expect Schedule.amountOf; rw [duties_send, if_pos h, Finset.sum_singleton, amount_send]
theorem expect_recv (h : Has c d) : (rd (F := F) m ρ).expect (recvCell c d) 0 = N := by
  unfold Schedule.expect Schedule.amountOf; rw [duties_recv, if_pos h, Finset.sum_singleton, amount_recv]

theorem payload_bar : (rd (F := F) m ρ).payload (barCell c) 0 e = barPay c e := by dsimp only [rd]; rw [role_bar]; rfl
theorem payload_send : (rd (F := F) m ρ).payload (sendCell c d) 0 e = sendPay m ρ c d := by dsimp only [rd]; rw [role_send]; rfl
theorem payload_recv : (rd (F := F) m ρ).payload (recvCell c d) 0 e = recvPay m ρ c d := by dsimp only [rd]; rw [role_recv]; rfl

/-- All the barrier's payloads: for each direction with a neighbour, that neighbour's halo plane. -/
theorem rest_bar : bigSep ((rd (F := F) m ρ).duties (barCell c) 0 \ ∅) (fun e => (rd (F := F) m ρ).payload (barCell c) 0 e)
    = bigSep Finset.univ fun e => if Has c e then barPay (F := F) c e else iprop(emp) := by
  rw [Finset.sdiff_empty, duties_bar, bigSep_filter]
  exact bigSep_congr fun e _ => by rw [payload_bar]; rfl
theorem rest_send (h : Has c d) :
    bigSep ((rd (F := F) m ρ).duties (sendCell c d) 0 \ ∅) (fun e => (rd (F := F) m ρ).payload (sendCell c d) 0 e) = sendPay m ρ c d := by
  rw [Finset.sdiff_empty, duties_send, if_pos h, bigSep_singleton, payload_send]
theorem rest_recv (h : Has c d) :
    bigSep ((rd (F := F) m ρ).duties (recvCell c d) 0 \ ∅) (fun e => (rd (F := F) m ρ).payload (recvCell c d) 0 e) = recvPay m ρ c d := by
  rw [Finset.sdiff_empty, duties_recv, if_pos h, bigSep_singleton, payload_recv]

end Tables

/-! ## What a device owes, and the levels -/

/-- One item owed: a barrier unit (`false`) or a landing (`true`) to the neighbour in a direction, if there is one. -/
def due (c : Dev nD) (x : Bool × Dir) : CellTallies nD τ sig Unit :=
  if Has c x.2 then
    (if x.1 then tallyAt (recvCell (nbr c x.2) (opp x.2)) () N else tallyAt (barCell (nbr c x.2)) () 1)
  else 0

/-- A list of items owed, the first one the next to be paid. -/
def dues (c : Dev nD) : List (Bool × Dir) → CellTallies nD τ sig Unit
  | [] => 0
  | x :: l => dues c l + due c x

/-- The landings owed, in the order of the sends; and before them the barrier units. -/
abbrev landings : List (Bool × Dir) := [(true, 0), (true, 1), (true, 2), (true, 3), (true, 4), (true, 5)]
abbrev allDues : List (Bool × Dir) :=
  (false, 0) :: (false, 1) :: (false, 2) :: (false, 3) :: (false, 4) :: (false, 5) :: landings

def L (g : GSem nD τ sig) : Finset Unit := if g.1.2 = .tc then {()} else ∅
/-- The level of a role. -/
def lvOf : Option Role → ℕ
  | some none => 1
  | some (some (true, _)) => 2
  | _ => 0
def lv (g : GSem nD τ sig) (_ : Unit) : ℕ := lvOf (role g.2)

theorem L_of_ne (g : GSem nD τ sig) (h : g.1.2 ≠ .tc) : L g = ∅ := if_neg h
theorem L_tc (c : Dev nD) (sm : SemLoc sig) : L ((c : Thread nD τ), sm) = {()} := if_pos rfl

/-- Whatever is owed is owed to a barrier cell or to a receive cell, the latter if only landings are. -/
theorem dues_pos {c : Dev nD} {l : List (Bool × Dir)} {g : GSem nD τ sig} {u : Unit} (h : 0 < dues c l g u) :
    ∃ x ∈ l, g = if x.1 then recvCell (nbr c x.2) (opp x.2) else barCell (nbr c x.2) := by
  induction l with
  | nil => exact absurd h (Nat.lt_irrefl 0)
  | cons x l ih =>
    rw [dues, Pi.add_apply, Finsupp.add_apply] at h
    rcases Nat.add_pos_iff_pos_or_pos.mp h with h | h
    · obtain ⟨y, hy, e⟩ := ih h
      exact ⟨y, List.mem_cons_of_mem _ hy, e⟩
    · refine ⟨x, List.mem_cons_self, ?_⟩
      unfold due at h
      by_cases hh : Has c x.2
      · rw [if_pos hh] at h
        by_cases hb : x.1 = true
        · rw [if_pos hb] at h ⊢; exact (Pipeline.tallyAt_pos h).1
        · rw [if_neg hb] at h ⊢; exact (Pipeline.tallyAt_pos h).1
      · rw [if_neg hh] at h; exact absurd h (Nat.lt_irrefl 0)

/-- A wait at a cell of level at most `n` while everything owed has a higher level. -/
theorem mayWait_dues (c : Dev nD) (sm : SemLoc sig) (n : ℕ) (l : List (Bool × Dir)) (hs : lvOf (role sm) ≤ n)
    (hl : ∀ x ∈ l, n < if x.1 then 2 else 1) :
    (levAts L lv : sProp 𝕄) ⊢ MayWait (c : Thread nD τ) sm () (dues c l) :=
  MayOwe.of_cut (L := L) (lev := lv) n (fun p hp => by rw [Finset.mem_singleton.mp hp, L_tc]; exact Finset.mem_singleton_self _)
    (fun g u hg => by
      obtain ⟨x, -, rfl⟩ := dues_pos hg
      by_cases hb : x.1 = true
      · rw [if_pos hb, L_tc]; exact Finset.mem_singleton_self _
      · rw [if_neg hb, L_tc]; exact Finset.mem_singleton_self _)
    (fun p hp => by rw [Finset.mem_singleton.mp hp]; exact hs)
    (fun g u hg => by
      obtain ⟨x, hx, rfl⟩ := dues_pos hg
      have h := hl x hx
      by_cases hb : x.1 = true
      · rw [if_pos hb] at h ⊢; show n < lvOf (role (.dma (recvS _))); rw [role_recv]; exact h
      · rw [if_neg hb] at h ⊢; show n < lvOf (role (.reg barS)); rw [role_bar]; exact h)

/-! ## What a device's body works with -/

/-- The records every device reads: the invariants of all cells, and that their round is open. -/
def records (K : Dev nD × Role → ℕ) : sProp 𝕄 :=
  iprop((bigSep Finset.univ fun ck : Dev nD × Role => cellInv ER (rd m ρ) (K ck) (kcell ck))
    ∗ bigSep Finset.univ fun ck : Dev nD × Role => reached ER (kcell ck) 0)

instance records_persistent (K : Dev nD × Role → ℕ) : BI.Persistent (records m ρ K) := by unfold records; infer_instance

theorem inv_at (K : Dev nD × Role → ℕ) (ck : Dev nD × Role) :
    (records m ρ K : sProp 𝕄) ⊢ cellInv ER (rd m ρ) (K ck) (kcell ck) := by
  unfold records; iintro ⟨H, -⟩
  iapply (show (bigSep Finset.univ fun ck : Dev nD × Role => (cellInv ER (rd m ρ) (K ck) (kcell ck) : sProp 𝕄)) ⊢ cellInv ER (rd m ρ) (K ck) (kcell ck)
    from bigSep_elim (Finset.mem_univ ck)); iexact H
theorem reached_at (K : Dev nD × Role → ℕ) (ck : Dev nD × Role) :
    (records m ρ K : sProp 𝕄) ⊢ reached ER (kcell ck) 0 := by
  unfold records; iintro ⟨-, H⟩
  iapply (show (bigSep Finset.univ fun ck : Dev nD × Role => (reached ER (kcell ck) 0 : sProp 𝕄)) ⊢ reached ER (kcell ck) 0
    from bigSep_elim (Finset.mem_univ ck)); iexact H

/-- The tokens a device pays with in direction `d`: its unit on the neighbour's barrier, its own send, the landing there. -/
def barTok (c : Dev nD) (d : Dir) : sProp 𝕄 := dutyTok ER (barCell (nbr c d)) 0 (opp d)
def sendTok (c : Dev nD) (d : Dir) : sProp 𝕄 := dutyTok ER (sendCell c d) 0 0
def landTok (c : Dev nD) (d : Dir) : sProp 𝕄 := dutyTok ER (recvCell (nbr c d) (opp d)) 0 0

/-- What a device still owes, its waits so far aside. -/
def owing (c : Dev nD) (l : List (Bool × Dir)) : sProp 𝕄 := iprop(∃ W, owes (c : Thread nD τ) (dues c l) W)

/-- The credit for the landing of direction `d`. -/
def landCred (c : Dev nD) (d : Dir) : sProp 𝕄 :=
  if Has c d then cred (tallyAt (recvCell c d) () N) else iprop(emp)

end Cert.Halo

end
-- ==== Proof.Steps.lean ====
/-
# One step of each kind

The rules of the exchange's four conditional steps — signal a neighbour, send it a face, wait for its landing, wait for one's
own send — and of the barrier wait, each at a symbolic device and direction. A conditional step that is skipped for want of a
neighbour leaves its resources as they are, which the `if`s in the statements record.
-/
module

public import proofs.«01_k».proof.Proof.Protocol

@[expose] public section

noncomputable section

namespace Cert.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A program of a TensorCore. -/
abbrev Pg (F : FTy → Type) (α : Type) : Type 1 := Prog (TpuEff nD τ sig (Elt F) Λ₀ .tc) α

/-- The weakest precondition of a program on device `c`. -/
abbrev wpc (c : Dev nD) {α : Type} (p : Pg F α) (Q : α → sProp 𝕄) : sProp 𝕄 :=
  wp frame (wpE (defs₀ (F := F)) 𝒱₀ (c : Thread nD τ) none) Set.univ p Q

/-- A step taken under a condition and skipped otherwise: the rule of the step, and that the resources without it are what is
    left. -/
theorem wp_if {P : Prop} [Decidable P] (c : Dev nD) {α : Type} {A : P → Pg F α} {k : Pg F α} {Q : α → sProp 𝕄} {R S : sProp 𝕄}
    (ht : ∀ h : P, R ⊢ iprop((S -∗ wpc c k Q) -∗ wpc c (A h) Q)) (hf : ¬ P → R ⊢ S) :
    R ⊢ iprop((S -∗ wpc c k Q) -∗ wpc c (if h : P then A h else k) Q) := by
  by_cases h : P
  · rw [dif_pos h]; exact ht h
  · rw [dif_neg h]
    iintro H Hk
    iapply Hk
    iapply (hf h); iexact H

/-! ## Signals -/

/-- The halo plane of a direction while only devices with no neighbour there keep it. -/
def keptHalo (c : Dev nD) (d : Dir) : sProp 𝕄 := if Has c d then iprop(emp) else haloAny c d

theorem due_sig {c : Dev nD} {d : Dir} (h : Has c d) : due c (false, d) = tallyAt (barCell (nbr c d)) () 1 := by
  unfold due; rw [if_pos h]; rfl
theorem due_land {c : Dev nD} {d : Dir} (h : Has c d) : due c (true, d) = tallyAt (recvCell (nbr c d) (opp d)) () N := by
  unfold due; rw [if_pos h]; rfl
theorem due_not {c : Dev nD} {x : Bool × Dir} (h : ¬ Has c x.2) : due c x = 0 := by unfold due; exact if_neg h

theorem owing_not {c : Dev nD} {x : Bool × Dir} {l : List (Bool × Dir)} (h : ¬ Has c x.2) :
    (owing c (x :: l) : sProp 𝕄) ⊢ owing c l := by
  unfold owing; rw [dues, due_not h, add_zero]

/-- Signalling the neighbour in direction `d`: a unit of what is owed, and the halo plane of that direction with it. -/
theorem wp_sig (K : Dev nD × Role → ℕ) (c : Dev nD) (d : Dir) (l : List (Bool × Dir)) {P : Prop} [Decidable P] (hP : P ↔ Has c d)
    (n : P → Dev nD) (hn : ∀ h, n h = nbr c d) {α : Type} (k : Pg F α) (Q : α → sProp 𝕄) :
    iprop(records m ρ K ∗ owing c ((false, d) :: l) ∗ barTok c d ∗ haloAny c d)
      ⊢ iprop((iprop(owing c l ∗ keptHalo c d) -∗ wpc c k Q)
        -∗ wpc c (if h : P then ((semSignalWord (n h) barS 1#32 : Pg F PUnit) >>= fun _ => k) else k) Q) := by
  refine wp_if c (fun h => ?_) (fun h => ?_)
  · have hh : Has c d := hP.mp h
    rw [hn h]
    simp only [semSignalWord, Prog.bind_op, Prog.bind_ret]
    rw [show (1#32 : BitVec 32).toInt = ((1 : ℕ) : ℤ) from rfl]
    unfold owing
    rw [show dues c ((false, d) :: l) = dues c l + tallyAt (barCell (nbr c d)) () 1 from by rw [dues, due_sig hh]]
    iintro ⟨#HK, ⟨%W, HO⟩, Ht, Hh⟩ Hk
    iapply (Rounds.wp_signal 𝒱₀ ER (rd m ρ) (c : Thread nD τ) none (dst := (nbr c d : Thread nD τ)) (κ := K (nbr c d, none))
      (d := opp d) (by rw [duties_bar]; exact Finset.mem_filter.mpr ⟨Finset.mem_univ _, (has_opp c d).trans hh⟩)
      (amount_bar m ρ (nbr c d) (opp d)) () (dues c l) rfl) $$ [HO Ht Hh]
    · isplitr; · iapply (inv_at m ρ K (nbr c d, none)); iexact HK
      isplitl [HO]; · iexact HO
      isplitl [Ht]; · unfold barTok; iexact Ht
      isplitl [Hh]
      · rw [payload_bar]; unfold barPay; rw [nbr_opp, opp_opp]; iexact Hh
      iapply (reached_at m ρ K (nbr c d, none)); iexact HK
    iintro HO
    iapply Hk
    isplitl [HO]; · iexists W; iexact HO
    unfold keptHalo; rw [if_pos hh]; iempintro
  · have hh : ¬ Has c d := fun e => h (hP.mpr e)
    iintro ⟨-, HO, -, Hh⟩
    isplitl [HO]; · iapply (owing_not (F := F) (x := (false, d)) hh); iexact HO
    unfold keptHalo; rw [if_neg hh]; iexact Hh

/-! ## The barrier wait -/

/-- What the barrier brings in direction `e`: the plane of the neighbour's halo this device writes. -/
def destHalo (c : Dev nD) (e : Dir) : sProp 𝕄 := if Has c e then haloAny (nbr c e) (opp e) else iprop(emp)

/-- Waiting for one unit per neighbour: all their planes, and the barrier cell closed. -/
theorem wp_bar (K : Dev nD × Role → ℕ) (c : Dev nD) {α : Type} (k : Pg F α) (Q : α → sProp 𝕄) :
    iprop(records m ρ K ∗ levAts L lv ∗ owing c landings ∗ cred (tallyAt (barCell c) () (deg c)) ∗ atPos ER (barCell c) 0 ∅ 0)
      ⊢ iprop((iprop(owing c landings ∗ (bigSep Finset.univ fun e => destHalo (F := F) c e) ∗ semVal (barCell c) 0) -∗ wpc c k Q)
        -∗ wpc c ((semWaitWord barS (k0_amt1 c) : Pg F PUnit) >>= fun _ => k) Q) := by
  simp only [semWaitWord, Prog.bind_op, Prog.bind_ret]
  rw [amt_eq]
  unfold owing
  iintro ⟨#HK, #Hlev, ⟨%W, HO⟩, Hc, Hat⟩ Hk
  iapply (Rounds.wp_wait_rest_token 𝒱₀ ER (rd m ρ) (c : Thread nD τ) none (κ := K (c, none))
      (wpE_semWait_eq 𝒱₀ (c : Thread nD τ) none Set.univ) (Set.mem_univ _) () (O := dues c landings) (W := W) (R := 0) (m := 0) (T := ∅)
      (by rw [expect_bar, Nat.zero_add])) $$ [Hc HO Hat]
  · isplitr; · iapply (inv_at m ρ K (c, none)); iexact HK
    isplitl [Hc]; · iexact Hc
    isplitl [HO]; · iexact HO
    isplitr
    · iapply (mayWait_dues c (.reg barS) 1 landings (by rw [role_bar]; exact Nat.le_refl 1) (by decide)); iexact Hlev
    iexact Hat
  iintro ⟨HO, Hat, -, Hpay⟩
  ihave Hp := (Entails.of_eq (rest_bar m ρ c)) $$ Hpay
  imod (Rounds.cell_close ER (rd m ρ) (Set.mem_univ (K (c, none))) (fun h => h) (R := 0 + 1) (duties_later m ρ (barCell c))) $$ [Hat] with Hz
  · isplitr; · iapply (inv_at m ρ K (c, none)); iexact HK
    iexact Hat
  iapply Hk
  isplitl [HO]; · iexists _; iexact HO
  isplitl [Hp]; · unfold destHalo; iexact Hp
  iexact Hz

/-! ## Sends -/

/-- The source plane of a send while it is under way: its credit if there is a neighbour, else the plane itself. -/
def sent (c : Dev nD) (d : Dir) : sProp 𝕄 := if Has c d then cred (tallyAt (sendCell c d) () N) else sendPay m ρ c d

/-- Sending the face of direction `d` to the neighbour. -/
theorem wp_send_dir (K : Dev nD × Role → ℕ) (c : Dev nD) (d : Dir) (l : List (Bool × Dir)) {P : Prop} [Decidable P] (hP : P ↔ Has c d)
    (n : P → Dev nD) (hn : ∀ h, n h = nbr c d)
    {hsc : ∀ h : P, (haloM (opp d) : Memref sig (Dev.tc (n h) : Thread nD τ).2.kind .vmem S48x48 .f32).view.ref.isScScratch = false}
    {hsrc : (srcM d).view.WordExact} {hdst : (haloM (opp d)).view.WordExact}
    {hsem : ∀ h : P, DmaTarget.Typed .vmem (.dma (recvS (opp d))) (.remote (Dev.tc (n h) : Thread nD τ) (haloM (opp d)) (.dma (sendS d)) (hsc h))}
    {α : Type} (k : Pg F α) (Q : α → sProp 𝕄) :
    iprop(records m ρ K ∗ owing c ((true, d) :: l) ∗ sendTok c d ∗ landTok c d ∗ sendPay m ρ c d ∗ destHalo c d)
      ⊢ iprop((iprop(owing c l ∗ sent m ρ c d) -∗ wpc c k Q)
        -∗ wpc c (if h : P then ((Prog.lift (.enqueueDma (srcM d) (.remote (Dev.tc (n h) : Thread nD τ) (haloM (opp d)) (.dma (sendS d)) (hsc h))
            (.dma (recvS (opp d))) hsrc hdst (hsem h)) : Pg F PUnit) >>= fun _ => k) else k) Q) := by
  refine wp_if c (fun h => ?_) (fun h => ?_)
  · have hh : Has c d := hP.mp h
    have hno : Has (nbr c d) (opp d) := (has_opp c d).trans hh
    have hnh := hn h
    generalize hsem h = hse at *
    revert hse
    generalize hsc h = hs at *
    revert hs
    rw [hnh]
    intro hs hse
    simp only [Prog.lift, Prog.bind_op, Prog.bind_ret]
    unfold owing sendPay destHalo haloAny haloPts srcPts
    rw [show dues c ((true, d) :: l) = dues c l + tallyAt (recvCell (nbr c d) (opp d)) () N from by rw [dues, due_land hh], if_pos hh]
    iintro ⟨#HK, ⟨%W, HO⟩, Hts, Htl, ⟨%fs, %hfs, Hs⟩, ⟨%fd, Hd⟩⟩ Hk
    iapply (Rounds.wp_send_pointsTo 𝒱₀ ER (rd m ρ) (c : Thread nD τ) none (κ₁ := K (c, some (false, d))) (κ₂ := K (nbr c d, some (true, opp d)))
      (r₁ := 0) (r₂ := 0) (d₁ := 0) (d₂ := 0) (fs := fs) (fd := fd)
      (by rw [duties_send, if_pos hh]; exact Finset.mem_singleton_self _) (by rw [duties_recv, if_pos hno]; exact Finset.mem_singleton_self _)
      () () N rfl (amount_send m ρ c d 0) (amount_recv m ρ (nbr c d) (opp d) 0) (dues c l) rfl (W := W)
      (by rw [payload_send]; unfold sendPay srcPts; iintro H; iexists fs; isplitr; · ipureintro; exact hfs
          iexact H)
      (by
        rw [payload_recv]; unfold recvPay haloPts
        iintro H
        iexists ((haloM (opp d)).view.write (Elt F) fd ((srcM d).view.read (Elt F) fs) Finset.univ)
        isplitr
        · ipureintro
          rw [nbr_opp, opp_opp, ← hfs]
          exact View.read_write_univ _ _
        iexact H)) $$ [HO Hts Htl Hs Hd]
    · isplitr; · iapply (inv_at m ρ K (c, some (false, d))); iexact HK
      isplitr; · iapply (inv_at m ρ K (nbr c d, some (true, opp d))); iexact HK
      isplitl [Hs]; · iexact Hs
      isplitl [Hd]; · iexact Hd
      isplitl [HO]; · iexact HO
      isplitl [Hts]; · unfold sendTok; iexact Hts
      isplitr; · iapply (reached_at m ρ K (c, some (false, d))); iexact HK
      isplitl [Htl]; · unfold landTok; iexact Htl
      iapply (reached_at m ρ K (nbr c d, some (true, opp d))); iexact HK
    iintro ⟨Hc, HO⟩
    iapply Hk
    isplitl [HO]; · iexists W; iexact HO
    unfold sent; rw [if_pos hh]; iexact Hc
  · have hh : ¬ Has c d := fun e => h (hP.mpr e)
    iintro ⟨-, HO, -, -, Hs, -⟩
    isplitl [HO]; · iapply (owing_not (F := F) (x := (true, d)) hh); iexact HO
    unfold sent; rw [if_neg hh]; iexact Hs

/-! ## Waits for transfers -/

/-- The halo plane of direction `d` once its landing is waited for: the neighbour's face, if there is a neighbour. -/
def gotHalo (c : Dev nD) (d : Dir) : sProp 𝕄 :=
  iprop(∃ f, ⌜Has c d → (haloM d).view.read (Elt F) f = face m ρ (nbr c d) (opp d)⌝ ∗ haloPts c d f)

/-- Waiting for the landing of direction `d`. -/
theorem wp_land (K : Dev nD × Role → ℕ) (c : Dev nD) (d : Dir) {P : Prop} [Decidable P] (hP : P ↔ Has c d)
    {hsrc : (srcM d).view.WordExact} {hdst : (haloM d).view.WordExact} {α : Type} (k : Pg F α) (Q : α → sProp 𝕄) :
    iprop(records m ρ K ∗ owing c [] ∗ atPos ER (recvCell c d) 0 ∅ 0 ∗ landCred c d ∗ keptHalo c d)
      ⊢ iprop((iprop(|={Set.univ}=> (owing c [] ∗ semVal (recvCell c d) 0 ∗ gotHalo m ρ c d)) -∗ wpc c k Q)
        -∗ wpc c (if h : P then ((Prog.lift (.waitDma2 (recvS d) (srcM d) (haloM d) hsrc hdst) : Pg F PUnit) >>= fun _ => k) else k) Q) := by
  refine wp_if c (fun h => ?_) (fun h => ?_)
  · have hh : Has c d := hP.mp h
    simp only [Prog.lift, Prog.bind_op, Prog.bind_ret]
    unfold owing landCred
    rw [if_pos hh]
    iintro ⟨#HK, ⟨%W, HO⟩, Hat, Hc, -⟩ Hk
    iapply (Rounds.wp_wait_rest_token 𝒱₀ ER (rd m ρ) (c : Thread nD τ) none (κ := K (c, some (true, d)))
      (wpE_waitDma2_eq 𝒱₀ (c : Thread nD τ) none Set.univ) (Set.mem_univ _) () (O := dues c []) (W := W) (R := 0) (m := 0) (T := ∅)
      (by rw [expect_recv m ρ c d hh, Nat.zero_add])) $$ [Hc HO Hat]
    · isplitr; · iapply (inv_at m ρ K (c, some (true, d))); iexact HK
      isplitl [Hc]; · iexact Hc
      isplitl [HO]; · iexact HO
      isplitr; · rw [dues, MayWait_zero]; iempintro
      iexact Hat
    iintro ⟨HO, Hat, -, Hpay⟩
    ihave Hp := (Entails.of_eq (rest_recv m ρ c d hh)) $$ Hpay
    iapply Hk
    imod (Rounds.cell_close ER (rd m ρ) (Set.mem_univ (K (c, some (true, d)))) (fun h => h) (R := 0 + 1) (duties_later m ρ (recvCell c d))) $$ [Hat] with Hz
    · isplitr; · iapply (inv_at m ρ K (c, some (true, d))); iexact HK
      iexact Hat
    imodintro
    isplitl [HO]; · iexists _; iexact HO
    isplitl [Hz]; · iexact Hz
    unfold recvPay gotHalo
    icases Hp with ⟨%f, %hf, Hp⟩
    iexists f; isplitr; · ipureintro; exact fun _ => hf
    iexact Hp
  · have hh : ¬ Has c d := fun e => h (hP.mpr e)
    unfold keptHalo haloAny gotHalo; rw [if_neg hh]
    iintro ⟨#HK, HO, Hat, -, Hh⟩
    imod (Rounds.cell_close ER (rd m ρ) (Set.mem_univ (K (c, some (true, d)))) (fun h => h) (R := 0) (duties_none m ρ c d true hh)) $$ [Hat] with Hz
    · isplitr; · iapply (inv_at m ρ K (c, some (true, d))); iexact HK
      iexact Hat
    imodintro
    isplitl [HO]; · iexact HO
    isplitl [Hz]; · iexact Hz
    icases Hh with ⟨%f, Hh⟩
    iexists f; isplitr; · ipureintro; exact fun e => absurd e hh
    iexact Hh

/-- Waiting for one's own send of direction `d`. -/
theorem wp_sent (K : Dev nD × Role → ℕ) (c : Dev nD) (d : Dir) {P : Prop} [Decidable P] (hP : P ↔ Has c d)
    {hsrc : (haloM (opp d)).view.WordExact} {hdst : (srcM d).view.WordExact} (hN : (srcM d).view.dmaCredit = N)
    {α : Type} (k : Pg F α) (Q : α → sProp 𝕄) :
    iprop(records m ρ K ∗ owing c [] ∗ atPos ER (sendCell c d) 0 ∅ 0 ∗ sent m ρ c d)
      ⊢ iprop((iprop(|={Set.univ}=> (owing c [] ∗ semVal (sendCell c d) 0 ∗ sendPay m ρ c d)) -∗ wpc c k Q)
        -∗ wpc c (if h : P then ((Prog.lift (.waitDma2 (sendS d) (haloM (opp d)) (srcM d) hsrc hdst) : Pg F PUnit) >>= fun _ => k) else k) Q) := by
  refine wp_if c (fun h => ?_) (fun h => ?_)
  · have hh : Has c d := hP.mp h
    simp only [Prog.lift, Prog.bind_op, Prog.bind_ret]
    unfold owing sent
    rw [if_pos hh]
    iintro ⟨#HK, ⟨%W, HO⟩, Hat, Hc⟩ Hk
    iapply (Rounds.wp_wait_rest_token 𝒱₀ ER (rd m ρ) (c : Thread nD τ) none (κ := K (c, some (false, d))) (k' := N)
      (fun K' => by rw [← hN]; exact wpE_waitDma2_eq 𝒱₀ (c : Thread nD τ) none Set.univ K') (Set.mem_univ _) () (O := dues c []) (W := W) (R := 0) (m := 0) (T := ∅)
      (by rw [expect_send m ρ c d hh, Nat.zero_add])) $$ [Hc HO Hat]
    · isplitr; · iapply (inv_at m ρ K (c, some (false, d))); iexact HK
      isplitl [Hc]; · iexact Hc
      isplitl [HO]; · iexact HO
      isplitr; · rw [dues, MayWait_zero]; iempintro
      iexact Hat
    iintro ⟨HO, Hat, -, Hpay⟩
    ihave Hp := (Entails.of_eq (rest_send m ρ c d hh)) $$ Hpay
    iapply Hk
    imod (Rounds.cell_close ER (rd m ρ) (Set.mem_univ (K (c, some (false, d)))) (fun h => h) (R := 0 + 1) (duties_later m ρ (sendCell c d))) $$ [Hat] with Hz
    · isplitr; · iapply (inv_at m ρ K (c, some (false, d))); iexact HK
      iexact Hat
    imodintro
    isplitl [HO]; · iexists _; iexact HO
    isplitl [Hz]; · iexact Hz
    iexact Hp
  · have hh : ¬ Has c d := fun e => h (hP.mpr e)
    unfold sent; rw [if_neg hh]
    iintro ⟨#HK, HO, Hat, Hs⟩
    imod (Rounds.cell_close ER (rd m ρ) (Set.mem_univ (K (c, some (false, d)))) (fun h => h) (R := 0) (duties_none m ρ c d false hh)) $$ [Hat] with Hz
    · isplitr; · iapply (inv_at m ρ K (c, some (false, d))); iexact HK
      iexact Hat
    imodintro
    isplitl [HO]; · iexact HO
    isplitl [Hz]; · iexact Hz
    iexact Hs

/-- Every send's plane has the credit of one plane. -/
theorem src_credit (d : Dir) : (srcM d).view.dmaCredit = N := by fin_cases d <;> rfl

end Cert.Halo

end
-- ==== Proof.Planes.lean ====
/-
# Buffers held plane by plane

The staging buffer and the halo buffer are held as six planes, the block itself as its first plane, its last plane and the rest
while those two planes are being sent. The lemmas split and join them, and give the loads and stores of the kernel on one plane.
-/
module

public import proofs.«01_k».proof.Proof.Steps

@[expose] public section

noncomputable section

namespace Cert.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (lead_disjoint lead_cover pointsTo_blocks pointsTo_blocks_join_exists)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Ownership of one plane of the staging buffer. -/
def stagePts (c : Dev nD) (d : Dir) (f : Buf (Elt F) ((stageM d).view.loc (c : Thread nD τ))) : sProp 𝕄 :=
  (stageM d).view.loc (c : Thread nD τ) ↦[(stageM d).view.set]{fullShare} f
def stageAny (c : Dev nD) (d : Dir) : sProp 𝕄 := iprop(∃ f, stagePts c d f)

/-! ## Six planes -/

theorem plane_disjoint (d e : Dir) (h : d ≠ e) : Disjoint (rP d).set (rP e).set :=
  lead_disjoint (s := S6x48x48) 0 1 (fun d : Dir => ![d.val, 0, 0]) S1x48x48.size inbP (fun b => (Nat.one_mul _).symm) rfl d e h
theorem plane_cover : Finset.univ.biUnion (fun d : Dir => (rP d).set) = Finset.univ :=
  lead_cover (s := S6x48x48) 0 1 (fun d : Dir => ![d.val, 0, 0]) S1x48x48.size inbP (fun b => (Nat.one_mul _).symm)
    (fun b a ha => by fin_cases a; · exact absurd rfl ha
                      · rfl
                      · rfl) rfl
    (fun a ha => by fin_cases a; · exact absurd rfl ha
                    · rfl
                    · rfl) rfl

theorem halo_set (d : Dir) : (haloM d).view.set = (rP d).set :=
  (View.set_reshape _ _).trans (View.set_slice_whole _ _)
theorem stage_set (d : Dir) : (stageM d).view.set = (rP d).set :=
  (View.set_reshape _ _).trans (View.set_slice_whole _ _)

theorem halo_intro (c : Dev nD) (d : Dir) (f : Buf (Elt F) ((c : Thread nD τ).loc cc0_scratch1)) :
    (((c : Thread nD τ).loc cc0_scratch1) ↦[(rP d).set]{fullShare} f : sProp 𝕄) ⊢ haloAny c d := by
  unfold haloAny haloPts; rw [halo_set]
  iintro H; iexists f; iexact H
theorem stage_intro (c : Dev nD) (d : Dir) (f : Buf (Elt F) ((c : Thread nD τ).loc cc0_scratch0)) :
    (((c : Thread nD τ).loc cc0_scratch0) ↦[(rP d).set]{fullShare} f : sProp 𝕄) ⊢ stageAny c d := by
  unfold stageAny stagePts; rw [stage_set]
  iintro H; iexists f; iexact H

/-- The halo buffer, whole at some contents, is its six planes at some contents each; -/
theorem halo_split (c : Dev nD) :
    (iprop(∃ f : Buf (Elt F) ((c : Thread nD τ).loc cc0_scratch1), ((c : Thread nD τ).loc cc0_scratch1) ↦{fullShare} f) : sProp 𝕄)
      ⊢ bigSep Finset.univ fun d : Dir => haloAny c d := by
  iintro ⟨%f, H⟩
  iapply (show (((c : Thread nD τ).loc cc0_scratch1) ↦{fullShare} f : sProp 𝕄) ⊢ bigSep Finset.univ fun d : Dir => haloAny c d from by
    rw [pointsTo_blocks (fun d : Dir => (rP d).set) plane_disjoint plane_cover]
    refine bigSep_mono fun d _ => ?_
    exact halo_intro c d f)
  iexact H
/-- and back. -/
theorem halo_join (c : Dev nD) (f₀ : Buf (Elt F) ((c : Thread nD τ).loc cc0_scratch1)) :
    (bigSep Finset.univ fun d : Dir => (haloAny c d : sProp 𝕄))
      ⊢ iprop(∃ f : Buf (Elt F) ((c : Thread nD τ).loc cc0_scratch1), ((c : Thread nD τ).loc cc0_scratch1) ↦{fullShare} f) := by
  refine (bigSep_mono fun d _ => ?_).trans (pointsTo_blocks_join_exists (ℓ := (c : Thread nD τ).loc cc0_scratch1) (fun d : Dir => (rP d).set) plane_disjoint plane_cover f₀)
  unfold haloAny haloPts; rw [halo_set]; exact BI.Entails.refl _

/-- The staging buffer likewise; -/
theorem stage_split (c : Dev nD) :
    (iprop(∃ f : Buf (Elt F) ((c : Thread nD τ).loc cc0_scratch0), ((c : Thread nD τ).loc cc0_scratch0) ↦{fullShare} f) : sProp 𝕄)
      ⊢ bigSep Finset.univ fun d : Dir => stageAny c d := by
  iintro ⟨%f, H⟩
  iapply (show (((c : Thread nD τ).loc cc0_scratch0) ↦{fullShare} f : sProp 𝕄) ⊢ bigSep Finset.univ fun d : Dir => stageAny c d from by
    rw [pointsTo_blocks (fun d : Dir => (rP d).set) plane_disjoint plane_cover]
    refine bigSep_mono fun d _ => ?_
    exact stage_intro c d f)
  iexact H
/-- and back. -/
theorem stage_join (c : Dev nD) (f₀ : Buf (Elt F) ((c : Thread nD τ).loc cc0_scratch0)) :
    (bigSep Finset.univ fun d : Dir => (stageAny c d : sProp 𝕄))
      ⊢ iprop(∃ f : Buf (Elt F) ((c : Thread nD τ).loc cc0_scratch0), ((c : Thread nD τ).loc cc0_scratch0) ↦{fullShare} f) := by
  refine (bigSep_mono fun d _ => ?_).trans (pointsTo_blocks_join_exists (ℓ := (c : Thread nD τ).loc cc0_scratch0) (fun d : Dir => (rP d).set) plane_disjoint plane_cover f₀)
  unfold stageAny stagePts; rw [stage_set]; exact BI.Entails.refl _

/-! ## The block: two planes and the rest -/

/-- The block whole, at the argument's contents; and what is left of it beside its first and last planes. -/
def xWhole (c : Dev nD) : sProp 𝕄 := ((c : Thread nD τ).loc cc0_stg0_0) ↦{fullShare} xstg m ρ c
def xRest (c : Dev nD) : sProp 𝕄 :=
  ((c : Thread nD τ).loc cc0_stg0_0) ↦[(Finset.univ \ rLo.set) \ rHi.set]{fullShare} xstg m ρ c

theorem lo_set : xLo.view.set = rLo.set := (View.set_reshape _ _).trans (View.set_slice_whole _ _)
theorem hi_set : xHi.view.set = rHi.set := (View.set_reshape _ _).trans (View.set_slice_whole _ _)
theorem hi_sub : rHi.set ⊆ Finset.univ \ rLo.set := fun i hi => by
  refine Finset.mem_sdiff.mpr ⟨Finset.mem_univ _, fun hl => ?_⟩
  have h1 := (Rect.mem_set_unit.mp hi) 0
  have h2 := (Rect.mem_set_unit.mp hl) 0
  have h3 : 47 ≤ (i 0).val := h1.1
  have h4 : (i 0).val < 0 + 1 := h2.2
  omega

/-- Contents that read alike through a view agree on the view's elements. -/
theorem agree_of_read {κ : Kind} {sp : Space} {s : Shape} {e : EltTy} (v : View sig κ sp s e) {f g : v.ty.Contents (Elt F)}
    (h : v.read (Elt F) f = v.read (Elt F) g) : ∀ i ∈ v.set, f i = g i := fun i hi => by
  obtain ⟨x, -, rfl⟩ := Finset.mem_map.mp hi
  have := congrFun h x
  rw [View.read_apply, View.read_apply] at this
  exact (cast_inj _).mp this

/-- The block is cut for the sends of directions 0 and 1; -/
theorem x_split (c : Dev nD) : (xWhole m ρ c : sProp 𝕄) ⊢ iprop(sendPay m ρ c 0 ∗ sendPay m ρ c 1 ∗ xRest m ρ c) := by
  unfold xWhole xRest sendPay srcPts
  iintro H
  ihave H := (pointsTo_split_subset (Finset.subset_univ rLo.set)).1 $$ H
  icases H with ⟨H0, H⟩
  ihave H := (pointsTo_split_subset hi_sub).1 $$ H
  icases H with ⟨H1, H⟩
  isplitl [H0]
  · iexists (xstg m ρ c)
    isplitr; · ipureintro; rfl
    iapply (Entails.of_eq (show (((c : Thread nD τ).loc cc0_stg0_0) ↦[rLo.set]{fullShare} xstg m ρ c : sProp 𝕄)
      = ((c : Thread nD τ).loc cc0_stg0_0) ↦[xLo.view.set]{fullShare} xstg m ρ c from by rw [lo_set])); iexact H0
  isplitl [H1]
  · iexists (xstg m ρ c)
    isplitr; · ipureintro; rfl
    iapply (Entails.of_eq (show (((c : Thread nD τ).loc cc0_stg0_0) ↦[rHi.set]{fullShare} xstg m ρ c : sProp 𝕄)
      = ((c : Thread nD τ).loc cc0_stg0_0) ↦[xHi.view.set]{fullShare} xstg m ρ c from by rw [hi_set])); iexact H1
  iexact H

/-- and joined again when they are done: its planes still hold the faces, so it holds what it held. -/
theorem x_join (c : Dev nD) : iprop(sendPay m ρ c 0 ∗ sendPay m ρ c 1 ∗ xRest m ρ c) ⊢ (xWhole m ρ c : sProp 𝕄) := by
  unfold xWhole xRest sendPay srcPts
  iintro ⟨⟨%f, %hf, H0⟩, ⟨%g, %hg, H1⟩, H⟩
  have ef : ∀ i ∈ rLo.set, f i = xstg m ρ c i := by rw [← lo_set]; exact agree_of_read xLo.view hf
  have eg : ∀ i ∈ rHi.set, g i = xstg m ρ c i := by rw [← hi_set]; exact agree_of_read xHi.view hg
  ihave H0 := (Entails.of_eq (show ((srcM 0).view.loc (c : Thread nD τ) ↦[(srcM 0).view.set]{fullShare} f : sProp 𝕄)
    = ((c : Thread nD τ).loc cc0_stg0_0) ↦[rLo.set]{fullShare} xstg m ρ c from by
      show (((c : Thread nD τ).loc cc0_stg0_0) ↦[xLo.view.set]{fullShare} f : sProp 𝕄) = _
      rw [lo_set]; exact pointsTo_congr ef)) $$ H0
  ihave H1 := (Entails.of_eq (show ((srcM 1).view.loc (c : Thread nD τ) ↦[(srcM 1).view.set]{fullShare} g : sProp 𝕄)
    = ((c : Thread nD τ).loc cc0_stg0_0) ↦[rHi.set]{fullShare} xstg m ρ c from by
      show (((c : Thread nD τ).loc cc0_stg0_0) ↦[xHi.view.set]{fullShare} g : sProp 𝕄) = _
      rw [hi_set]; exact pointsTo_congr eg)) $$ H1
  iapply (pointsTo_split_subset (Finset.subset_univ rLo.set)).2
  isplitl [H0]; · iexact H0
  iapply (pointsTo_split_subset hi_sub).2
  isplitl [H1] <;> iassumption

/-! ## Loads and stores -/

theorem hz3 : (![0, 0, 0] : Fin 3 → Nat) = fun _ => 0 := funext fun a => by fin_cases a <;> rfl

abbrev r0 : Rect S48x48x48 := Rect.unit (s := S48x48x48) ![0, 0, 0] S48x48x48.size inb_S48x48x48_S48x48x48_0_0_0

/-- Loading the block. -/
theorem wp_load_x (c : Dev nD) {hl : xM.view.LoadsAt r0.toLoadRect} {α : Type} (k : Vec F S48x48x48 .f32 → Pg F α) (Q : α → sProp 𝕄) :
    (xWhole m ρ c : sProp 𝕄) ⊢ iprop((xWhole m ρ c -∗ wpc c (k (xstg m ρ c)) Q)
      -∗ wpc c ((Prog.lift (.load xM r0.toLoadRect hl) : Pg F (Vec F S48x48x48 .f32)) >>= k) Q) := by
  simp only [Prog.lift, Prog.bind_op, Prog.bind_ret]
  unfold xWhole
  iintro Hx Hk
  iapply (wp_load 𝒱₀ (c : Thread nD τ) none Set.univ (m := xM) (Finset.subset_univ _)) $$ Hx
  rw [show xM.view.readAt (Elt F) r0.toLoadRect (xstg m ρ c) = xstg m ρ c from Memref.readAt_unit_zero (Elt F) cc0_stg0_0 hz3 _ _]
  iexact Hk

/-- Writing plane `d` of the staging buffer (its old contents loaded first, and not used). -/
theorem wp_stage (c : Dev nD) (d : Dir) (w : Vec F S1x48x48 .f32) {hl : tM.view.LoadsAt (rP d).toLoadRect}
    {hx : (tM.access (rP d)).Stores Finset.univ} {hm} {α : Type} (k : Pg F α) (Q : α → sProp 𝕄) :
    (stageAny c d : sProp 𝕄)
      ⊢ iprop((iprop(∃ f, ⌜(stageM d).view.read (Elt F) f = shapeCast S48x48 w shapeCasts_S1x48x48_S48x48⌝ ∗ stagePts c d f) -∗ wpc c k Q)
      -∗ wpc c ((Prog.lift (.load tM (rP d).toLoadRect hl) : Pg F (Vec F S1x48x48 .f32)) >>= fun _ =>
          (Prog.lift (.store tM (rP d) w Finset.univ hx hm) : Pg F PUnit) >>= fun _ => k) Q) := by
  simp only [Prog.lift, Prog.bind_op, Prog.bind_ret]
  unfold stageAny stagePts
  iintro ⟨%f, H⟩ Hk
  iapply (wp_load_rect 𝒱₀ (c : Thread nD τ) none Set.univ (m := tM) (r := rP d) (S := (stageM d).view.set)
    (by rw [stage_set]; exact (View.set_slice_whole _ _).subset)) $$ H
  iintro H
  iapply (wp_store 𝒱₀ (c : Thread nD τ) none Set.univ (m := tM) (r := rP d) (Mk := Finset.univ) (S := (stageM d).view.set)
    (by rw [stage_set]; exact (View.set_slice_whole _ _).subset)) $$ H
  iintro H
  iapply Hk
  iexists ((tM.access (rP d)).write (Elt F) f w Finset.univ)
  isplitr
  · ipureintro
    show shapeCast S48x48 ((tM.access (rP d)).read (Elt F) ((tM.access (rP d)).write (Elt F) f w Finset.univ)) shapeCasts_S1x48x48_S48x48 = _
    rw [View.read_write_univ]
  iexact H

/-- Loading plane `d` of the halo buffer: read as a square it is the neighbour's face, if there is a neighbour. -/
theorem wp_load_halo (c : Dev nD) (d : Dir) {hl : hM.view.LoadsAt (rP d).toLoadRect} {α : Type} (k : Vec F S1x48x48 .f32 → Pg F α) (Q : α → sProp 𝕄) :
    (gotHalo m ρ c d : sProp 𝕄)
      ⊢ iprop((∀ v : Vec F S1x48x48 .f32, ⌜Has c d → shapeCast S48x48 v shapeCasts_S1x48x48_S48x48 = face m ρ (nbr c d) (opp d)⌝ -∗ haloAny c d -∗ wpc c (k v) Q)
      -∗ wpc c ((Prog.lift (.load hM (rP d).toLoadRect hl) : Pg F (Vec F S1x48x48 .f32)) >>= k) Q) := by
  simp only [Prog.lift, Prog.bind_op, Prog.bind_ret]
  unfold gotHalo haloAny haloPts
  iintro ⟨%f, %hf, H⟩ Hk
  iapply (wp_load_rect 𝒱₀ (c : Thread nD τ) none Set.univ (m := hM) (r := rP d) (S := (haloM d).view.set)
    (by rw [halo_set]; exact (View.set_slice_whole _ _).subset)) $$ H
  iintro H
  iapply Hk $$ [] [H]
  · ipureintro; exact hf
  iexists f; iexact H

/-- The result's buffer at some contents, and at given ones. -/
def outAny (c : Dev nD) : sProp 𝕄 := iprop(∃ f, ((c : Thread nD τ).loc cc0_stg1_0) ↦{fullShare} f)

/-- Storing the result (its old contents loaded first, and not used). -/
theorem wp_out (c : Dev nD) (w : Vec F S48x48x48 .f32) {hl : oM.view.LoadsAt r0.toLoadRect}
    {hx : (oM.access r0).Stores Finset.univ} {hm} {α : Type} (k : Pg F α) (Q : α → sProp 𝕄) :
    (outAny c : sProp 𝕄)
      ⊢ iprop(((((c : Thread nD τ).loc cc0_stg1_0) ↦{fullShare} w) -∗ wpc c k Q)
      -∗ wpc c ((Prog.lift (.load oM r0.toLoadRect hl) : Pg F (Vec F S48x48x48 .f32)) >>= fun _ =>
          (Prog.lift (.store oM r0 w Finset.univ hx hm) : Pg F PUnit) >>= fun _ => k) Q) := by
  simp only [Prog.lift, Prog.bind_op, Prog.bind_ret]
  unfold outAny
  iintro ⟨%f, H⟩ Hk
  iapply (wp_load 𝒱₀ (c : Thread nD τ) none Set.univ (m := oM) (Finset.subset_univ _)) $$ H; iintro H
  iapply (wp_store 𝒱₀ (c : Thread nD τ) none Set.univ (m := oM) (r := r0) (Mk := Finset.univ) (Finset.subset_univ _)) $$ H; iintro H
  iapply Hk
  rw [show ((oM.access r0 : View sig .tc _ _ _).write (Elt F) f w Finset.univ) = w from Memref.write_access_unit_zero_univ (Elt F) cc0_stg1_0 hz3 _ f w]
  iexact H

end Cert.Halo

end
-- ==== Proof.Bundles.lean ====
/-
# The steps over bundles of ghost state

What one step along a direction spends is bundled into one assertion, and each step of the kernel is restated over its bundle.
-/
module

public import proofs.«01_k».proof.Proof.Planes

@[expose] public section

noncomputable section

namespace Cert.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (lead_disjoint lead_cover pointsTo_blocks pointsTo_blocks_join_exists)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- One statement for each of the six directions. -/
def six (P : Dir → sProp 𝕄) : sProp 𝕄 := iprop(P 0 ∗ P 1 ∗ P 2 ∗ P 3 ∗ P 4 ∗ P 5)

/-- A statement for every direction is the six of them. -/
theorem all_six (P : Dir → sProp 𝕄) : bigSep Finset.univ P = six P := by
  unfold six
  rw [show (Finset.univ : Finset Dir) = {0, 1, 2, 3, 4, 5} by decide, bigSep_insert (by decide), bigSep_insert (by decide),
    bigSep_insert (by decide), bigSep_insert (by decide), bigSep_insert (by decide), bigSep_singleton]
  rfl

/-- What a signal along `d` spends, what a send along `d` spends beside the plane it reads, what a wait for an arrival spends,
and what a wait for a departure spends. -/
def preSig (c : Dev nD) (d : Dir) : sProp 𝕄 := iprop(barTok c d ∗ haloAny c d)
def preSend (c : Dev nD) (d : Dir) : sProp 𝕄 := iprop(sendTok c d ∗ landTok c d ∗ sendPay m ρ c d ∗ destHalo c d)
def preLand (c : Dev nD) (d : Dir) : sProp 𝕄 := iprop(atPos ER (recvCell c d) 0 ∅ 0 ∗ landCred c d ∗ keptHalo c d)
def preSent (c : Dev nD) (d : Dir) : sProp 𝕄 := iprop(atPos ER (sendCell c d) 0 ∅ 0 ∗ sent m ρ c d)

/-- The value loaded from halo plane `d`, where device `c` has a neighbour there: that neighbour's face. -/
def HaloVal (c : Dev nD) (d : Dir) (v : Vec F S1x48x48 .f32) : Prop :=
  Has c d → shapeCast S48x48 v shapeCasts_S1x48x48_S48x48 = face m ρ (nbr c d) (opp d)

theorem wp_pure (c : Dev nD) {α : Type} (v : α) (Q : α → sProp 𝕄) : Q v ⊢ wpc c (pure v : Pg F α) Q := by
  show Q v ⊢ wp _ _ _ (Prog.ret v) Q
  rw [wp_ret]
  iintro H; imodintro; iexact H

theorem wp_dev (c : Dev nD) {α : Type} (k : Dev nD → Pg F α) (Q : α → sProp 𝕄) :
    wpc c (k c) Q ⊢ wpc c ((Prog.lift .deviceId : Pg F (Dev nD)) >>= k) Q := by
  simp only [Prog.lift, Prog.bind_op, Prog.bind_ret, wp_deviceId]
  exact BI.Entails.refl _

/-! ## The steps over these bundles -/

theorem step_sig (K : Dev nD × Role → ℕ) (c : Dev nD) (d : Dir) (l : List (Bool × Dir)) {P : Prop} [Decidable P] (hP : P ↔ Has c d)
    (n : P → Dev nD) (hn : ∀ h, n h = nbr c d) {α : Type} (k : Pg F α) (Q : α → sProp 𝕄) :
    iprop(records m ρ K ∗ owing c ((false, d) :: l) ∗ preSig c d)
      ⊢ iprop((iprop(owing c l ∗ keptHalo c d) -∗ wpc c k Q)
        -∗ wpc c (if h : P then ((semSignalWord (n h) barS 1#32 : Pg F PUnit) >>= fun _ => k) else k) Q) := by
  unfold preSig; exact wp_sig m ρ K c d l hP n hn k Q

/-- The planes a send reads and writes are whole words; its target is the tensor core's own memory and its semaphores are typed for it. -/
theorem src_exact (d : Dir) : (srcM d).view.WordExact := by
  fin_cases d <;> exact (View.wordExact_bits rfl).reshape _ _
theorem halo_exact (d : Dir) : (haloM d).view.WordExact := (View.wordExact_bits rfl).reshape _ _
theorem halo_own (n : Dev nD) (d : Dir) :
    (haloM d : Memref sig (Dev.tc n : Thread nD τ).2.kind .vmem S48x48 .f32).view.ref.isScScratch = false := rfl
theorem send_typed (n : Dev nD) (d : Dir) :
    DmaTarget.Typed (p := (Dev.tc n : Thread nD τ).2) .vmem (.dma (recvS (opp d))) (.remote (Dev.tc n : Thread nD τ) (haloM (opp d)) (.dma (sendS d)) (halo_own n (opp d))) :=
  ⟨⟨rfl, Or.inl rfl⟩, trivial⟩

theorem step_send (K : Dev nD × Role → ℕ) (c : Dev nD) (d : Dir) (l : List (Bool × Dir)) {P : Prop} [Decidable P] (hP : P ↔ Has c d)
    (n : P → Dev nD) (hn : ∀ h, n h = nbr c d) {α : Type} (k : Pg F α) (Q : α → sProp 𝕄) :
    iprop(records m ρ K ∗ owing c ((true, d) :: l) ∗ preSend m ρ c d)
      ⊢ iprop((iprop(owing c l ∗ sent m ρ c d) -∗ wpc c k Q)
        -∗ wpc c (if h : P then ((Prog.lift (.enqueueDma (srcM d) (.remote (Dev.tc (n h) : Thread nD τ) (haloM (opp d)) (.dma (sendS d)) (halo_own (n h) (opp d)))
            (.dma (recvS (opp d))) (src_exact d) (halo_exact (opp d)) (send_typed (n h) d)) : Pg F PUnit) >>= fun _ => k) else k) Q) := by
  unfold preSend; exact wp_send_dir m ρ K c d l hP n hn k Q

theorem step_land (K : Dev nD × Role → ℕ) (c : Dev nD) (d : Dir) {P : Prop} [Decidable P] (hP : P ↔ Has c d)
    {hsrc : (srcM d).view.WordExact} {hdst : (haloM d).view.WordExact} {α : Type} (k : Pg F α) (Q : α → sProp 𝕄) :
    iprop(records m ρ K ∗ owing c [] ∗ preLand c d)
      ⊢ iprop((iprop(|={Set.univ}=> (owing c [] ∗ semVal (recvCell c d) 0 ∗ gotHalo m ρ c d)) -∗ wpc c k Q)
        -∗ wpc c (if h : P then ((Prog.lift (.waitDma2 (recvS d) (srcM d) (haloM d) hsrc hdst) : Pg F PUnit) >>= fun _ => k) else k) Q) := by
  unfold preLand; exact wp_land m ρ K c d hP k Q

theorem step_sent (K : Dev nD × Role → ℕ) (c : Dev nD) (d : Dir) {P : Prop} [Decidable P] (hP : P ↔ Has c d)
    {hsrc : (haloM (opp d)).view.WordExact} {hdst : (srcM d).view.WordExact} {α : Type} (k : Pg F α) (Q : α → sProp 𝕄) :
    iprop(records m ρ K ∗ owing c [] ∗ preSent m ρ c d)
      ⊢ iprop((iprop(|={Set.univ}=> (owing c [] ∗ semVal (sendCell c d) 0 ∗ sendPay m ρ c d)) -∗ wpc c k Q)
        -∗ wpc c (if h : P then ((Prog.lift (.waitDma2 (sendS d) (haloM (opp d)) (srcM d) hsrc hdst) : Pg F PUnit) >>= fun _ => k) else k) Q) := by
  unfold preSent; exact wp_sent m ρ K c d hP (src_credit d) k Q

/-- Loading a halo plane whose contents are known. -/
theorem step_load (c : Dev nD) (d : Dir) {hl : hM.view.LoadsAt (rP d).toLoadRect} {α : Type} (k : Vec F S1x48x48 .f32 → Pg F α) (Q : α → sProp 𝕄) :
    (gotHalo m ρ c d : sProp 𝕄)
      ⊢ iprop((∀ v : Vec F S1x48x48 .f32, ⌜HaloVal m ρ c d v⌝ -∗ haloAny c d -∗ wpc c (k v) Q)
      -∗ wpc c ((Prog.lift (.load hM (rP d).toLoadRect hl) : Pg F (Vec F S1x48x48 .f32)) >>= k) Q) := by
  unfold HaloVal; exact wp_load_halo m ρ c d k Q

/-- Filling staging plane `d` with a value that reads as the face sent along `d`. -/
theorem step_stage (c : Dev nD) (d : Dir) (hd : srcM d = stageM d) (w : Vec F S1x48x48 .f32)
    (hw : shapeCast S48x48 w shapeCasts_S1x48x48_S48x48 = face m ρ c d) {hl : tM.view.LoadsAt (rP d).toLoadRect}
    {hx : (tM.access (rP d)).Stores Finset.univ} {hm} {α : Type} (k : Pg F α) (Q : α → sProp 𝕄) :
    (stageAny c d : sProp 𝕄)
      ⊢ iprop((sendPay m ρ c d -∗ wpc c k Q)
      -∗ wpc c ((Prog.lift (.load tM (rP d).toLoadRect hl) : Pg F (Vec F S1x48x48 .f32)) >>= fun _ =>
          (Prog.lift (.store tM (rP d) w Finset.univ hx hm) : Pg F PUnit) >>= fun _ => k) Q) := by
  iintro H Hk
  iapply (wp_stage c d w k Q) $$ H
  iintro H
  iapply Hk
  iapply (show iprop(∃ f, ⌜(stageM d).view.read (Elt F) f = shapeCast S48x48 w shapeCasts_S1x48x48_S48x48⌝ ∗ stagePts c d f) ⊢ (sendPay m ρ c d : sProp 𝕄) from by
    unfold sendPay srcPts stagePts; rw [hd, hw])
  iexact H

end Cert.Halo

end
-- ==== Proof.Parts.lean ====
/-
# The kernel's parts, one at a time

The printed body is a chain of six parts and a tail. Each lemma here runs one part at the symbolic device `c`: what it takes of
the ghost state and the buffers, what it gives back, and the values it hands to the next part. Part 1 and the first lines of part 2
signal the neighbours; part 2 fills the staging planes; part 3 waits on the barrier and sends; part 4 computes masks; part 5 waits
for the arrivals and starts loading the halo, part 6 loads the rest.
-/
module

public import proofs.«01_k».proof.Proof.Bundles

@[expose] public section

noncomputable section

namespace Cert.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (lead_disjoint lead_cover pointsTo_blocks pointsTo_blocks_join_exists)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev cx (c : Dev nD) : BitVec 32 := Scalar.remsi (Scalar.divsi (Dev.word c) 8#32) 2#32
abbrev cy (c : Dev nD) : BitVec 32 := Scalar.remsi (Scalar.divsi (Dev.word c) 4#32) 2#32
abbrev cz (c : Dev nD) : BitVec 32 := Scalar.remsi (Scalar.divsi (Dev.word c) 1#32) 4#32
abbrev barArr : Sems sig S_ := SemArray.scalar (sig.barrier 0 rfl)

/-- What part 1 hands on: the device, its coordinates, the six bits, the six neighbouring coordinates, the barrier. -/
def res1 (c : Dev nD) : Σ' (d0 : Dev nD) (v2 : BitVec 32) (v5 : BitVec 32) (v8 : BitVec 32) (v9 : BitVec 1) (v10 : BitVec 1) (v11 : BitVec 1)
    (v12 : BitVec 1) (v13 : BitVec 1) (v14 : BitVec 1) (v15 : BitVec 32) (v16 : BitVec 32) (v17 : BitVec 32) (v18 : BitVec 32) (v19 : BitVec 32)
    (v20 : BitVec 32), Sems sig S_ :=
  ⟨c, cx c, cy c, cz c, bit c 0, bit c 1, bit c 2, bit c 3, bit c 4, bit c 5,
    Scalar.subi (cx c) 1#32, Scalar.addi (cx c) 1#32, Scalar.subi (cy c) 1#32, Scalar.addi (cy c) 1#32,
    Scalar.subi (cz c) 1#32, Scalar.addi (cz c) 1#32, barArr⟩

/-- Part 1: the signals along the first four directions. -/
theorem wp_part1 (K : Dev nD × Role → ℕ) (c : Dev nD) (Q) :
    iprop(records m ρ K ∗ owing c allDues ∗ preSig c 0 ∗ preSig c 1 ∗ preSig c 2 ∗ preSig c 3)
      ⊢ iprop((iprop(owing c ((false, 4) :: (false, 5) :: landings) ∗ keptHalo c 0 ∗ keptHalo c 1 ∗ keptHalo c 2 ∗ keptHalo c 3)
          -∗ Q (res1 c))
        -∗ wpc c (k0_part1 (F := F) xM (Memref.isWhole_whole _) oM (Memref.isWhole_whole _) tM (Memref.isWhole_whole _) hM (Memref.isWhole_whole _)
          cc0_scratch2 cc0_scratch3) Q) := by
  rw [k0_part1_eq_skeleton]; unfold k0_part1_skel
  iintro ⟨#HK, HO, S0, S1, S2, S3⟩ Hk
  iapply (wp_dev c)
  iapply (step_sig m ρ K c 0 _ (cond_sig0 c) (fun h => ⟨k0_dev1 c, k0_dev1_lt c h⟩) (fun h => Fin.ext (dev_sig0 c h)) _ _) $$ [HO S0]
  · iframe HK HO S0
  iintro ⟨HO, H0⟩
  iapply (step_sig m ρ K c 1 _ (cond_sig1 c) (fun h => ⟨k0_dev2 c, k0_dev2_lt c h⟩) (fun h => Fin.ext (dev_sig1 c h)) _ _) $$ [HO S1]
  · iframe HK HO S1
  iintro ⟨HO, H1⟩
  iapply (step_sig m ρ K c 2 _ (cond_sig2 c) (fun h => ⟨k0_dev3 c, k0_dev3_lt c h⟩) (fun h => Fin.ext (dev_sig2 c h)) _ _) $$ [HO S2]
  · iframe HK HO S2
  iintro ⟨HO, H2⟩
  iapply (step_sig m ρ K c 3 _ (cond_sig3 c) (fun h => ⟨k0_dev4 c, k0_dev4_lt c h⟩) (fun h => Fin.ext (dev_sig3 c h)) _ _) $$ [HO S3]
  · iframe HK HO S3
  iintro ⟨HO, H3⟩
  iapply (wp_pure c (res1 c) Q)
  iapply Hk
  iframe HO H0 H1 H2 H3

/-- Part 2: the last two signals; then the block is loaded and its four other faces are put in the staging planes. -/
theorem wp_part2 (K : Dev nD × Role → ℕ) (c : Dev nD) (a₁ a₂ a₃ a₄ : BitVec 32) (a₅ : BitVec 1) (Q) :
    iprop(records m ρ K ∗ owing c ((false, 4) :: (false, 5) :: landings) ∗ preSig c 4 ∗ preSig c 5
        ∗ xWhole m ρ c ∗ stageAny c 2 ∗ stageAny c 3 ∗ stageAny c 4 ∗ stageAny c 5)
      ⊢ iprop((iprop(owing c landings ∗ keptHalo c 4 ∗ keptHalo c 5 ∗ xWhole m ρ c
            ∗ sendPay m ρ c 2 ∗ sendPay m ρ c 3 ∗ sendPay m ρ c 4 ∗ sendPay m ρ c 5)
          -∗ Q ⟨k0_pay2 (xstg m ρ c), k0_pay8 (xstg m ρ c), k0_pay9 (xstg m ρ c)⟩)
        -∗ wpc c (k0_part2 (F := F) xM (Memref.isWhole_whole _) oM (Memref.isWhole_whole _) tM (Memref.isWhole_whole _) hM (Memref.isWhole_whole _)
          cc0_scratch2 cc0_scratch3 c a₁ a₂ a₅ a₃ a₄ barArr) Q) := by
  rw [k0_part2_eq_skeleton]; unfold k0_part2_skel
  iintro ⟨#HK, HO, S4, S5, Hx, T2, T3, T4, T5⟩ Hk
  iapply (step_sig m ρ K c 4 _ (cond_sig4 c) (fun h => ⟨k0_dev5 c, k0_dev5_lt c h⟩) (fun h => Fin.ext (dev_sig4 c h)) _ _) $$ [HO S4]
  · iframe HK HO S4
  iintro ⟨HO, H4⟩
  iapply (step_sig m ρ K c 5 _ (cond_sig5 c) (fun h => ⟨k0_dev6 c, k0_dev6_lt c h⟩) (fun h => Fin.ext (dev_sig5 c h)) _ _) $$ [HO S5]
  · iframe HK HO S5
  iintro ⟨HO, H5⟩
  iapply (wp_load_x m ρ c _ _) $$ Hx; iintro Hx
  iapply (step_stage m ρ c 2 rfl (k0_pay3 (xstg m ρ c)) rfl _ _) $$ T2; iintro T2
  iapply (step_stage m ρ c 3 rfl (k0_pay4 (xstg m ρ c)) rfl _ _) $$ T3; iintro T3
  iapply (step_stage m ρ c 4 rfl (k0_pay5 (xstg m ρ c)) rfl _ _) $$ T4; iintro T4
  iapply (step_stage m ρ c 5 rfl (k0_pay6 (xstg m ρ c)) rfl _ _) $$ T5; iintro T5
  iapply (wp_pure c _ _)
  iapply Hk
  iframe HO H4 H5 Hx T2 T3 T4 T5

/-- Part 3: the barrier wait, which brings the neighbours' halo planes; then the six sends into them. -/
theorem wp_part3 (K : Dev nD × Role → ℕ) (c : Dev nD) (a₂ a₃ a₄ : BitVec 32) (b₀ b₁ b₂ b₃ b₄ b₅ : BitVec 1) (e₀ e₁ e₂ e₃ e₄ e₅ : BitVec 32)
    (u v w : FVec F S48x48x48 .f32) (Q) :
    iprop(records m ρ K ∗ levAts L lv ∗ owing c landings ∗ cred (tallyAt (barCell c) () (deg c)) ∗ atPos ER (barCell c) 0 ∅ 0
        ∗ six (fun d => iprop(sendTok c d ∗ landTok c d)) ∗ six (sendPay m ρ c))
      ⊢ iprop((iprop(owing c [] ∗ semVal (barCell c) 0 ∗ six (sent m ρ c))
          -∗ Q ⟨k0_pay10 u v w, iota .tc S1x48x48 32 [1] iota_S1x48x48_d1_w32, iota .tc S1x48x48 32 [2] iota_S1x48x48_d2_w32, k0_pay11, k0_pay12 b₂⟩)
        -∗ wpc c (k0_part3 (F := F) xM (Memref.isWhole_whole _) oM (Memref.isWhole_whole _) tM (Memref.isWhole_whole _) hM (Memref.isWhole_whole _)
          cc0_scratch2 cc0_scratch3 c a₂ a₃ a₄ b₀ b₁ b₂ b₃ b₄ b₅ e₀ e₁ e₂ e₃ e₄ e₅ barArr u v w) Q) := by
  rw [k0_part3_eq_skeleton]; unfold k0_part3_skel six
  iintro ⟨#HK, HL, HO, HC, HA, ⟨⟨S0, L0⟩, ⟨S1, L1⟩, ⟨S2, L2⟩, ⟨S3, L3⟩, ⟨S4, L4⟩, ⟨S5, L5⟩⟩, P0, P1, P2, P3, P4, P5⟩ Hk
  iapply (wp_bar m ρ K c _ _) $$ [HL HO HC HA]
  · iframe HK HL HO HC HA
  rw [all_six]; unfold six
  iintro ⟨HO, ⟨D0, D1, D2, D3, D4, D5⟩, HZ⟩
  iapply (step_send m ρ K c 0 _ (cond_send0 c) (fun h => ⟨k0_dev7 c, k0_dev7_lt c h⟩) (fun h => Fin.ext (dev_send0 c h)) _ _) $$ [HO S0 L0 P0 D0]
  · unfold preSend; iframe HK HO S0 L0 P0 D0
  iintro ⟨HO, P0⟩
  iapply (step_send m ρ K c 1 _ (cond_send1 c) (fun h => ⟨k0_dev8 c, k0_dev8_lt c h⟩) (fun h => Fin.ext (dev_send1 c h)) _ _) $$ [HO S1 L1 P1 D1]
  · unfold preSend; iframe HK HO S1 L1 P1 D1
  iintro ⟨HO, P1⟩
  iapply (step_send m ρ K c 2 _ (cond_send2 c) (fun h => ⟨k0_dev9 c, k0_dev9_lt c h⟩) (fun h => Fin.ext (dev_send2 c h)) _ _) $$ [HO S2 L2 P2 D2]
  · unfold preSend; iframe HK HO S2 L2 P2 D2
  iintro ⟨HO, P2⟩
  iapply (step_send m ρ K c 3 _ (cond_send3 c) (fun h => ⟨k0_dev10 c, k0_dev10_lt c h⟩) (fun h => Fin.ext (dev_send3 c h)) _ _) $$ [HO S3 L3 P3 D3]
  · unfold preSend; iframe HK HO S3 L3 P3 D3
  iintro ⟨HO, P3⟩
  iapply (step_send m ρ K c 4 _ (cond_send4 c) (fun h => ⟨k0_dev11 c, k0_dev11_lt c h⟩) (fun h => Fin.ext (dev_send4 c h)) _ _) $$ [HO S4 L4 P4 D4]
  · unfold preSend; iframe HK HO S4 L4 P4 D4
  iintro ⟨HO, P4⟩
  iapply (step_send m ρ K c 5 _ (cond_send5 c) (fun h => ⟨k0_dev12 c, k0_dev12_lt c h⟩) (fun h => Fin.ext (dev_send5 c h)) _ _) $$ [HO S5 L5 P5 D5]
  · unfold preSend; iframe HK HO S5 L5 P5 D5
  iintro ⟨HO, P5⟩
  iapply (wp_pure c _ _)
  iapply Hk
  iframe HO HZ P0 P1 P2 P3 P4 P5

/-- Part 5: the six waits for arrivals, then the first two halo planes are loaded. -/
theorem wp_part5 (K : Dev nD × Role → ℕ) (c : Dev nD) (a₂ a₃ a₄ : BitVec 32) (e₀ e₁ e₂ e₃ e₄ e₅ : BitVec 32)
    (u : FVec F S48x48x48 .f32) (k₁ : IVec S1x48x48 1) (i₁ : IVec S48x48x1 32) (k₂ k₃ : IVec S48x48x1 1) (Q) :
    iprop(records m ρ K ∗ owing c [] ∗ six (preLand c))
      ⊢ iprop((∀ (v₀ v₁ : Vec F S1x48x48 .f32), ⌜HaloVal m ρ c 0 v₀⌝ -∗ ⌜HaloVal m ρ c 1 v₁⌝
            -∗ iprop(owing c [] ∗ six (fun d => semVal (recvCell c d) 0) ∗ haloAny c 0 ∗ haloAny c 1
              ∗ gotHalo m ρ c 2 ∗ gotHalo m ρ c 3 ∗ gotHalo m ρ c 4 ∗ gotHalo m ρ c 5)
          -∗ Q ⟨k0_pay17 (bit c 2) (bit c 3) i₁ k₂ k₃, k0_pay18 (bit c 0) u k₁ v₀, k0_pay19 u, k0_pay20 u, k0_pay21 v₁⟩)
        -∗ wpc c (k0_part5 (F := F) xM (Memref.isWhole_whole _) oM (Memref.isWhole_whole _) tM (Memref.isWhole_whole _) hM (Memref.isWhole_whole _)
          cc0_scratch2 cc0_scratch3 a₂ a₃ a₄ (bit c 0) (bit c 1) (bit c 2) (bit c 3) (bit c 4) (bit c 5) e₀ e₁ e₂ e₃ e₄ e₅ u k₁ i₁ k₂ k₃) Q) := by
  rw [k0_part5_eq_skeleton]; unfold k0_part5_skel six
  iintro ⟨#HK, HO, P0, P1, P2, P3, P4, P5⟩ Hk
  iapply (step_land m ρ K c 0 (ext_iff c 0) _ _) $$ [HO P0]
  · iframe HK HO P0
  iintro H; imod H with ⟨HO, Z0, G0⟩
  iapply (step_land m ρ K c 1 (ext_iff c 1) _ _) $$ [HO P1]
  · iframe HK HO P1
  iintro H; imod H with ⟨HO, Z1, G1⟩
  iapply (step_land m ρ K c 2 (ext_iff c 2) _ _) $$ [HO P2]
  · iframe HK HO P2
  iintro H; imod H with ⟨HO, Z2, G2⟩
  iapply (step_land m ρ K c 3 (ext_iff c 3) _ _) $$ [HO P3]
  · iframe HK HO P3
  iintro H; imod H with ⟨HO, Z3, G3⟩
  iapply (step_land m ρ K c 4 (ext_iff c 4) _ _) $$ [HO P4]
  · iframe HK HO P4
  iintro H; imod H with ⟨HO, Z4, G4⟩
  iapply (step_land m ρ K c 5 (ext_iff c 5) _ _) $$ [HO P5]
  · iframe HK HO P5
  iintro H; imod H with ⟨HO, Z5, G5⟩
  iapply (step_load m ρ c 0 _ _) $$ G0; iintro %v₀ %h₀ G0
  iapply (step_load m ρ c 1 _ _) $$ G1; iintro %v₁ %h₁ G1
  iapply (wp_pure c _ _)
  iapply Hk $$ [] [] [HO Z0 Z1 Z2 Z3 Z4 Z5 G0 G1 G2 G3 G4 G5]
  · ipureintro; exact h₀
  · ipureintro; exact h₁
  iframe HO Z0 Z1 Z2 Z3 Z4 Z5 G0 G1 G2 G3 G4 G5

/-- Part 6: the other four halo planes are loaded. -/
theorem wp_part6 (c : Dev nD) (b₁ b₂ b₃ b₄ b₅ : BitVec 1) (k₁ : IVec S1x48x48 1) (k₂ : IVec S48x1x48 1) (k₃ : IVec S48x48x1 1)
    (p q r : _) (s : _) (Q) :
    iprop(gotHalo m ρ c 2 ∗ gotHalo m ρ c 3 ∗ gotHalo m ρ c 4 ∗ gotHalo m ρ c 5)
      ⊢ iprop((∀ (v₂ v₃ v₄ v₅ : Vec F S1x48x48 .f32), ⌜HaloVal m ρ c 2 v₂⌝ -∗ ⌜HaloVal m ρ c 3 v₃⌝ -∗ ⌜HaloVal m ρ c 4 v₄⌝ -∗ ⌜HaloVal m ρ c 5 v₅⌝
            -∗ iprop(haloAny c 2 ∗ haloAny c 3 ∗ haloAny c 4 ∗ haloAny c 5)
          -∗ Q ⟨k0_pay23 b₁ b₂ b₃ b₄ k₁ k₂ k₃ p q r s v₂ v₃ v₄, k0_pay24 b₁ b₂ b₃ k₁ k₂ p q r s v₂ v₃, k0_pay25 b₅ k₃,
              k0_pay26 b₁ b₂ b₃ k₁ k₂ p q r s v₂ v₃ v₅, Scalar.ofBits .f32 0x00000000#32⟩)
        -∗ wpc c (k0_part6 (F := F) xM (Memref.isWhole_whole _) oM (Memref.isWhole_whole _) tM (Memref.isWhole_whole _) hM (Memref.isWhole_whole _)
          cc0_scratch2 cc0_scratch3 b₁ b₂ b₃ b₄ b₅ k₁ k₂ k₃ p q r s) Q) := by
  rw [k0_part6_eq_skeleton]; unfold k0_part6_skel
  iintro ⟨G2, G3, G4, G5⟩ Hk
  iapply (step_load m ρ c 2 _ _) $$ G2; iintro %v₂ %h₂ G2
  iapply (step_load m ρ c 3 _ _) $$ G3; iintro %v₃ %h₃ G3
  iapply (step_load m ρ c 4 _ _) $$ G4; iintro %v₄ %h₄ G4
  iapply (step_load m ρ c 5 _ _) $$ G5; iintro %v₅ %h₅ G5
  iapply (wp_pure c _ _)
  iapply Hk $$ [] [] [] [] [G2 G3 G4 G5]
  · ipureintro; exact h₂
  · ipureintro; exact h₃
  · ipureintro; exact h₄
  · ipureintro; exact h₅
  iframe G2 G3 G4 G5

end Cert.Halo

end
-- ==== Proof.Out.lean ====
/-
# The block a device computes

`kout` is the value the kernel stores, as a function of the device, its block and the six values it loads from the halo planes.
-/
module

public import proofs.«01_k».proof.Proof.Parts
public import Idealize.ShloMosaic.Lib.PointwiseCore

@[expose] public section

noncomputable section

namespace Cert.Halo

open Cert.KernelIdeal Cert.KernelIdeal.Gen

open Idealize.ShloMosaic
open Idealize.ShloMosaic.TcCoe

variable {F : FTy → Type} [FloatOps F]

/-- The three masks: the places of a plane across axis 0, 1, 2 that are not on the boundary of the whole array along the other two. -/
def maskX (c : Dev nD) : IVec S1x48x48 1 :=
  k0_pay13 (bit c 3) (bit c 4) (bit c 5) (iota .tc S1x48x48 32 [1] iota_S1x48x48_d1_w32) (iota .tc S1x48x48 32 [2] iota_S1x48x48_d2_w32)
    k0_pay11 (k0_pay12 (bit c 2))
def maskY (c : Dev nD) : IVec S48x1x48 1 := k0_pay14 (bit c 0) (bit c 1) (bit c 4) (bit c 5)
def maskZ (c : Dev nD) : IVec S48x48x1 1 :=
  k0_pay17 (bit c 2) (bit c 3) (iota .tc S48x48x1 32 [1] iota_S48x48x1_d1_w32) (k0_pay15 (bit c 0) (bit c 1)) k0_pay16

/-- The stencil over the block alone, with zeros beyond its ends. -/
def core (u : FVec F S48x48x48 .f32) : FVec F S48x48x48 .f32 := k0_pay10 (k0_pay2 u) (k0_pay8 u) (k0_pay9 u)

/-- The block with its planes across axes 0 and 1 corrected, and the block stored. -/
def kmid (c : Dev nD) (u : FVec F S48x48x48 .f32) (H : Dir → FVec F S1x48x48 .f32) : FVec F S48x48x48 .f32 :=
  k0_pay22 (bit c 1) (bit c 2) (bit c 3) (maskX c) (maskY c) (k0_pay18 (bit c 0) (core u) (maskX c) (H 0)) (k0_pay19 (core u))
    (k0_pay20 (core u)) (k0_pay21 (H 1)) (H 2) (H 3)
def kout (c : Dev nD) (u : FVec F S48x48x48 .f32) (H : Dir → FVec F S1x48x48 .f32) : FVec F S48x48x48 .f32 :=
  k0_pay1
    (k0_pay23 (bit c 1) (bit c 2) (bit c 3) (bit c 4) (maskX c) (maskY c) (maskZ c) (k0_pay18 (bit c 0) (core u) (maskX c) (H 0)) (k0_pay19 (core u))
      (k0_pay20 (core u)) (k0_pay21 (H 1)) (H 2) (H 3) (H 4))
    (k0_pay24 (bit c 1) (bit c 2) (bit c 3) (maskX c) (maskY c) (k0_pay18 (bit c 0) (core u) (maskX c) (H 0)) (k0_pay19 (core u))
      (k0_pay20 (core u)) (k0_pay21 (H 1)) (H 2) (H 3))
    (k0_pay25 (bit c 5) (maskZ c))
    (k0_pay26 (bit c 1) (bit c 2) (bit c 3) (maskX c) (maskY c) (k0_pay18 (bit c 0) (core u) (maskX c) (H 0)) (k0_pay19 (core u))
      (k0_pay20 (core u)) (k0_pay21 (H 1)) (H 2) (H 3) (H 5))
    (Scalar.ofBits .f32 0x00000000#32)

/-! ## The same values, place by place -/

def zed : F .f32 := FloatOps.ofBits .f32 0#32

/-- Place `i` on axis 0 (`j` on axis 1, `k` on axis 2) is not at an end of the whole array. -/
abbrev okX (c : Dev nD) (i : Fin 48) : Prop := (0 < i.val ∨ Has c 0) ∧ (i.val < 47 ∨ Has c 1)
abbrev okY (c : Dev nD) (j : Fin 48) : Prop := (0 < j.val ∨ Has c 2) ∧ (j.val < 47 ∨ Has c 3)
abbrev okZ (c : Dev nD) (k : Fin 48) : Prop := (0 < k.val ∨ Has c 4) ∧ (k.val < 47 ∨ Has c 5)

/-- One place of a plane with the neighbour's place added, zero where the plane or the place is at an end of the whole array. -/
def upd (c : Dev nD) (d : Dir) (ok : Prop) [Decidable ok] (v h : F .f32) : F .f32 :=
  if ok ∧ Has c d then FloatOps.addf v h else zed

/-- What becomes of the value `v` at place `i` of an axis whose two directions are `d` and `e`. -/
def edge (c : Dev nD) (d e : Dir) (ok : Prop) [Decidable ok] (i : Fin 48) (v h h' : F .f32) : F .f32 :=
  if i.val < 1 then upd c d ok v h else if i.val < 47 then v else upd c e ok v h'

def coreAt (u : FVec F S48x48x48 .f32) (i j k : Fin 48) : F .f32 :=
  FloatOps.addf
    (FloatOps.addf
      (FloatOps.subf
        (FloatOps.addf
          (FloatOps.addf
            (FloatOps.addf (if h : i.val < 1 then zed else u (ix3 ⟨i.val - 1, by omega⟩ j k))
              (if h : i.val < 47 then u (ix3 ⟨1 + i.val, by omega⟩ j k) else zed))
            (if h : j.val < 1 then zed else u (ix3 i ⟨j.val - 1, by omega⟩ k)))
          (if h : j.val < 47 then u (ix3 i ⟨1 + j.val, by omega⟩ k) else zed))
        (FloatOps.mulf (FloatOps.ofBits .f32 1086324736#32) (u (ix3 i j k))))
      (if h : k.val < 1 then zed else u (ix3 i j ⟨k.val - 1, by omega⟩)))
    (if h : k.val < 47 then u (ix3 i j ⟨1 + k.val, by omega⟩) else zed)

/-- The block after the planes across axis 0, after those across axis 1 too, after all. `h d` is the neighbour's face. -/
def xAt (c : Dev nD) (u : FVec F S48x48x48 .f32) (h : Dir → FVec F S48x48 .f32) (i j k : Fin 48) : F .f32 :=
  edge c 0 1 (okY c j ∧ okZ c k) i (coreAt u i j k) (h 0 (ix2 j k)) (h 1 (ix2 j k))
def yAt (c : Dev nD) (u : FVec F S48x48x48 .f32) (h : Dir → FVec F S48x48 .f32) (i j k : Fin 48) : F .f32 :=
  edge c 2 3 (okX c i ∧ okZ c k) j (xAt c u h i j k) (h 2 (ix2 i k)) (h 3 (ix2 i k))
def zAt (c : Dev nD) (u : FVec F S48x48x48 .f32) (h : Dir → FVec F S48x48 .f32) (i j k : Fin 48) : F .f32 :=
  edge c 4 5 (okX c i ∧ okY c j) k (yAt c u h i j k) (h 4 (ix2 i j)) (h 5 (ix2 i j))

theorem core_at (u : FVec F S48x48x48 .f32) (i j k : Fin 48) : core u (ix3 i j k) = coreAt u i j k := by
  unfold coreAt zed
  pointwise [core, k0_pay10, k0_pay2, k0_pay7, k0_pay8, k0_pay9]

theorem one_cases (a : BitVec 1) : a = 0#1 ∨ a = 1#1 := by
  have := a.isLt
  rcases (show a.toNat = 0 ∨ a.toNat = 1 by omega) with h | h
  · exact .inl (BitVec.eq_of_toNat_eq h)
  · exact .inr (BitVec.eq_of_toNat_eq h)
theorem andi_one (a b : BitVec 1) : IntOp.andi a b = 1#1 ↔ a = 1#1 ∧ b = 1#1 := by
  rcases one_cases a with rfl | rfl <;> rcases one_cases b with rfl | rfl <;> decide
theorem ori_one (a b : BitVec 1) : IntOp.ori a b = 1#1 ↔ a = 1#1 ∨ b = 1#1 := by
  rcases one_cases a with rfl | rfl <;> rcases one_cases b with rfl | rfl <;> decide
theorem pos_one (i : Fin 48) : IntOp.cmpi .sgt (BitVec.ofNat 32 i.val) 0#32 = 1#1 ↔ 0 < i.val := by revert i; decide
theorem top_one (i : Fin 48) : IntOp.cmpi .slt (BitVec.ofNat 32 i.val) 47#32 = 1#1 ↔ i.val < 47 := by revert i; decide

theorem maskX_at (c : Dev nD) (j k : Fin 48) : maskX c (ix3 0 j k) = 1#1 ↔ okY c j ∧ okZ c k := by
  pointwise [maskX, k0_pay13, k0_pay11, k0_pay12]
  simp only [andi_one, ori_one, pos_one, top_one, bit_iff, and_assoc]
theorem maskY_at (c : Dev nD) (i k : Fin 48) : maskY c (ix3 i 0 k) = 1#1 ↔ okX c i ∧ okZ c k := by
  pointwise [maskY, k0_pay14]
  simp only [andi_one, ori_one, pos_one, top_one, bit_iff, and_assoc]
theorem maskZ_at (c : Dev nD) (i j : Fin 48) : maskZ c (ix3 i j 0) = 1#1 ↔ okX c i ∧ okY c j := by
  pointwise [maskZ, k0_pay17, k0_pay15, k0_pay16]
  simp only [andi_one, ori_one, pos_one, top_one, bit_iff, and_assoc]

/-- A select on a mask and a device's bit is the update. -/
theorem sel_upd (c : Dev nD) (d : Dir) (ok : Prop) [Decidable ok] (b : BitVec 1) (hb : b = 1#1 ↔ ok) (v h : F .f32) :
    Scalar.select (IntOp.andi b (bit c d)) (FloatOps.addf v h) (FloatOps.ofBits .f32 0#32) = upd c d ok v h := by
  unfold upd zed Scalar.select
  by_cases hh : ok ∧ Has c d
  · rw [if_pos hh]; exact if_pos ((andi_one _ _).2 ⟨hb.2 hh.1, (bit_iff c d).2 hh.2⟩)
  · rw [if_neg hh]; exact if_neg fun e => hh ⟨hb.1 ((andi_one _ _).1 e).1, (bit_iff c d).1 ((andi_one _ _).1 e).2⟩

/-- A loaded halo plane read as a square. -/
theorem square_at (v : FVec F S1x48x48 .f32) (j k : Fin 48) :
    shapeCast S48x48 v shapeCasts_S1x48x48_S48x48 (ix2 j k) = v (ix3 0 j k) := by
  pointwise

theorem three (i : Fin 48) : i.val < 1 ∨ (¬ i.val < 1 ∧ i.val - 1 < 46 ∧ i.val < 47) ∨ (¬ i.val < 1 ∧ ¬ i.val - 1 < 46 ∧ ¬ i.val < 47) := by omega
theorem mid_ix {i : Fin 48} (h : ¬ i.val < 1) (hh : 1 + (i.val - 1) < 48) : (⟨1 + (i.val - 1), hh⟩ : Fin 48) = i := Fin.ext (by show 1 + (i.val - 1) = i.val; omega)
theorem last_ix {i : Fin 48} (h : ¬ i.val - 1 < 46) (hh : 47 + (i.val - 1 - 46) < 48) : (⟨47 + (i.val - 1 - 46), hh⟩ : Fin 48) = i :=
  Fin.ext (by show 47 + (i.val - 1 - 46) = i.val; omega)

abbrev squares (H : Dir → FVec F S1x48x48 .f32) : Dir → FVec F S48x48 .f32 := fun d => shapeCast S48x48 (H d) shapeCasts_S1x48x48_S48x48

theorem unit_ix (x : ℕ) (h : x < 1) : (⟨x, h⟩ : Fin 1) = 0 := Subsingleton.elim _ _

theorem kmid_at (c : Dev nD) (u : FVec F S48x48x48 .f32) (H : Dir → FVec F S1x48x48 .f32) (i j k : Fin 48) :
    kmid c u H (ix3 i j k) = yAt c u (squares H) i j k := by
  unfold kmid k0_pay22
  generalize hw : concatenate S48x48x48 0 [⟨S1x48x48, _⟩, ⟨S46x48x48, _⟩, ⟨S1x48x48, _⟩] concatenates_S1x48x48_S46x48x48_S1x48x48_S48x48x48_d0 = w
  have hx : ∀ i j k, w (ix3 i j k) = xAt c u (squares H) i j k := fun i j k => by
    rw [← hw]; unfold xAt edge
    simp only [square_at, ← core_at]
    pointwise [k0_pay18, k0_pay19, k0_pay20, k0_pay21]
    simp only [unit_ix, sel_upd c 0 _ _ (maskX_at c _ _), sel_upd c 1 _ _ (maskX_at c _ _)]
    rcases three i with hi | ⟨hi, hi', hi''⟩ | ⟨hi, hi', hi''⟩
    · rw [dif_pos hi, if_pos hi]
    · rw [dif_neg hi, dif_pos hi', if_neg hi, if_pos hi'', mid_ix hi]
    · rw [dif_neg hi, dif_neg hi', if_neg hi, if_neg hi'', last_ix hi']
  clear hw
  unfold yAt edge
  simp only [square_at, ← hx]
  pointwise
  simp only [unit_ix, sel_upd c 2 _ _ (maskY_at c _ _), sel_upd c 3 _ _ (maskY_at c _ _)]
  rcases three j with hi | ⟨hi, hi', hi''⟩ | ⟨hi, hi', hi''⟩
  · rw [dif_pos hi, if_pos hi]
  · rw [dif_neg hi, dif_pos hi', if_neg hi, if_pos hi'', mid_ix hi]
  · rw [dif_neg hi, dif_neg hi', if_neg hi, if_neg hi'', last_ix hi']

theorem kout_at (c : Dev nD) (u : FVec F S48x48x48 .f32) (H : Dir → FVec F S1x48x48 .f32) (i j k : Fin 48) :
    kout c u H (ix3 i j k) = zAt c u (squares H) i j k := by
  unfold zAt edge
  simp only [square_at, ← kmid_at]
  unfold kout k0_pay23 k0_pay24 k0_pay26
  rw [← kmid.eq_def]
  pointwise [k0_pay1, k0_pay25]
  simp only [unit_ix, sel_upd c 4 _ _ (maskZ_at c _ _), sel_upd c 5 _ _ (maskZ_at c _ _)]
  rcases three k with hi | ⟨hi, hi', hi''⟩ | ⟨hi, hi', hi''⟩
  · rw [dif_pos hi, if_pos hi]
  · rw [dif_neg hi, dif_pos hi', if_neg hi, if_pos hi'', mid_ix hi]
  · rw [dif_neg hi, dif_neg hi', if_neg hi, if_neg hi'', last_ix hi']

/-- The block stored depends only on the faces of the neighbours that are there. -/
theorem zAt_congr (c : Dev nD) (u : FVec F S48x48x48 .f32) (h h' : Dir → FVec F S48x48 .f32) (e : ∀ d, Has c d → h d = h' d) (i j k : Fin 48) :
    zAt c u h i j k = zAt c u h' i j k := by
  have hu : ∀ (d : Dir) (ok : Prop) [Decidable ok] (v : F .f32) (p), upd c d ok v (h d p) = upd c d ok v (h' d p) := fun d ok _ v p => by
    unfold upd
    by_cases hd : Has c d
    · rw [e d hd]
    · rw [if_neg fun a => hd a.2, if_neg fun a => hd a.2]
  unfold zAt yAt xAt edge
  simp only [hu]

end Cert.Halo

end
-- ==== Proof.Body.lean ====
/-
# The kernel's body at a device

The six parts and the tail run one after the other, from the device's share of the ghost state and its four buffers to the same
buffers with the result stored, every semaphore of the device at zero and nothing owed.
-/
module

public import proofs.«01_k».proof.Proof.Out

@[expose] public section

noncomputable section

namespace Cert.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What device `c` leaves in its result: the stencil over its block and the faces of the neighbours it has. -/
def outAt (c : Dev nD) : Vec F S48x48x48 .f32 := fun p =>
  zAt c (xstg m ρ c) (fun d => face m ρ (nbr c d) (opp d)) (p 0) (p 1) (p 2)

/-- The value stored is that, whatever was loaded where there is no neighbour. -/
theorem kout_eq (c : Dev nD) (H : Dir → Vec F S1x48x48 .f32) (h : ∀ d, HaloVal m ρ c d (H d)) :
    kout c (xstg m ρ c) H = outAt m ρ c := funext fun p => by
  exact (congrArg (kout c (xstg m ρ c) H) (eq_ix3 p)).trans
    ((kout_at c _ H _ _ _).trans (zAt_congr c _ _ _ (fun d hd => h d hd) _ _ _))

/-- One piece of program after another. -/
theorem wp_seq (c : Dev nD) {α β : Type} (p : Pg F α) (k : α → Pg F β) (Q : β → sProp 𝕄) :
    wpc c p (fun a => wpc c (k a) Q) ⊢ wpc c (p >>= k) Q := by
  show _ ⊢ wp _ _ _ (p >>= k) Q
  rw [wp_bind]

/-- The planes of the staging buffer after the sends, at some contents. -/
theorem stage_back (c : Dev nD) (d : Dir) (hd : srcM d = stageM d) : (sendPay m ρ c d : sProp 𝕄) ⊢ stageAny c d := by
  unfold sendPay srcPts stageAny stagePts; rw [hd]
  iintro ⟨%f, -, H⟩; iexists f; iexact H

/-- What the body takes beside the schedule's records and the levels: the tokens, positions and credit of its device, and its buffers. -/
def ghost (c : Dev nD) : sProp 𝕄 :=
  iprop(cred (tallyAt (barCell c) () (deg c)) ∗ atPos ER (barCell c) 0 ∅ 0
    ∗ six (fun d => atPos ER (sendCell c d) 0 ∅ 0) ∗ six (fun d => atPos ER (recvCell c d) 0 ∅ 0)
    ∗ six (barTok c) ∗ six (fun d => iprop(sendTok c d ∗ landTok c d)) ∗ six (landCred c))
/-- All the device's semaphores at zero. -/
def quiet (c : Dev nD) : sProp 𝕄 :=
  iprop(semVal (barCell c) 0 ∗ six (fun d => semVal (sendCell c d) 0) ∗ six (fun d => semVal (recvCell c d) 0))

set_option maxHeartbeats 2000000 in
theorem sound_body (K : Dev nD × Role → ℕ) (c : Dev nD) (Q : PUnit → sProp 𝕄) :
    iprop(records m ρ K ∗ levAts L lv ∗ owing c allDues ∗ ghost c ∗ xWhole m ρ c ∗ outAny c ∗ six (haloAny c) ∗ six (stageAny c))
      ⊢ iprop((iprop(owing c [] ∗ quiet c ∗ xWhole m ρ c ∗ (((c : Thread nD τ).loc cc0_stg1_0) ↦{fullShare} outAt m ρ c)
            ∗ six (haloAny c) ∗ six (stageAny c)) -∗ Q ⟨⟩)
        -∗ wpc c (cc0_body (F := F) xM (Memref.isWhole_whole _) oM (Memref.isWhole_whole _) tM (Memref.isWhole_whole _) hM (Memref.isWhole_whole _)
          cc0_scratch2 cc0_scratch3) Q) := by
  rw [cc0_body_eq_skeleton]; unfold cc0_body_skel
  iintro ⟨#HK, HL, HO, HG, Hx, Hout, HH, HT⟩ Hk
  ihave HG' := (show (ghost c : sProp 𝕄) ⊢ _ from by unfold ghost six; exact BI.Entails.refl _) $$ HG
  icases HG' with ⟨HC, HA, ⟨As0, As1, As2, As3, As4, As5⟩, ⟨Ar0, Ar1, Ar2, Ar3, Ar4, Ar5⟩, ⟨B0, B1, B2, B3, B4, B5⟩, HS,
    ⟨C0, C1, C2, C3, C4, C5⟩⟩
  ihave HH' := (show (six (haloAny c) : sProp 𝕄) ⊢ _ from by unfold six; exact BI.Entails.refl _) $$ HH
  icases HH' with ⟨H0, H1, H2, H3, H4, H5⟩
  ihave HT' := (show (six (stageAny c) : sProp 𝕄) ⊢ _ from by unfold six; exact BI.Entails.refl _) $$ HT
  icases HT' with ⟨T0, T1, T2, T3, T4, T5⟩
  iapply (wp_seq c _ _ _)
  iapply (wp_part1 m ρ K c _) $$ [HO B0 B1 B2 B3 H0 H1 H2 H3]
  · unfold preSig; iframe HK HO B0 B1 B2 B3 H0 H1 H2 H3
  iintro ⟨HO, H0, H1, H2, H3⟩
  unfold res1; dsimp only
  iapply (wp_seq c _ _ _)
  iapply (wp_part2 m ρ K c _ _ _ _ _ _) $$ [HO B4 B5 H4 H5 Hx T2 T3 T4 T5]
  · unfold preSig; iframe HK HO B4 B5 H4 H5 Hx T2 T3 T4 T5
  iintro ⟨HO, H4, H5, Hx, P2, P3, P4, P5⟩
  dsimp only
  ihave Hx := (x_split m ρ c) $$ Hx
  icases Hx with ⟨P0, P1, Hx⟩
  iapply (wp_seq c _ _ _)
  iapply (wp_part3 m ρ K c _ _ _ _ _ _ _ _ _ _ _ _ _ _ _ _ _ _ _) $$ [HL HO HC HA HS P0 P1 P2 P3 P4 P5]
  · unfold six; iframe HK HL HO HC HA HS P0 P1 P2 P3 P4 P5
  iintro ⟨HO, HZ, HP⟩
  dsimp only
  iapply (wp_seq c _ _ _)
  rw [k0_part4_eq_skeleton]; unfold k0_part4_skel
  iapply (wp_pure c _ _)
  dsimp only
  iapply (wp_seq c _ _ _)
  iapply (wp_part5 m ρ K c _ _ _ _ _ _ _ _ _ _ _ _ _ _ _) $$ [HO Ar0 Ar1 Ar2 Ar3 Ar4 Ar5 C0 C1 C2 C3 C4 C5 H0 H1 H2 H3 H4 H5]
  · unfold six preLand
    iframe HK HO Ar0 Ar1 Ar2 Ar3 Ar4 Ar5 C0 C1 C2 C3 C4 C5 H0 H1 H2 H3 H4 H5
  iintro %v₀ %v₁ %h₀ %h₁ ⟨HO, HR, H0, H1, G2, G3, G4, G5⟩
  dsimp only
  iapply (wp_seq c _ _ _)
  iapply (wp_part6 m ρ c _ _ _ _ _ _ _ _ _ _ _ _ _) $$ [G2 G3 G4 G5]
  · iframe G2 G3 G4 G5
  iintro %v₂ %v₃ %v₄ %v₅ %h₂ %h₃ %h₄ %h₅ ⟨H2, H3, H4, H5⟩
  dsimp only
  iapply (wp_out c (kout c (xstg m ρ c) ![v₀, v₁, v₂, v₃, v₄, v₅]) _ _) $$ Hout
  iintro Hout
  ihave Hout := (Entails.of_eq (congrArg (fun w => (((c : Thread nD τ).loc cc0_stg1_0) ↦{fullShare} w : sProp 𝕄))
    (kout_eq m ρ c ![v₀, v₁, v₂, v₃, v₄, v₅] (fun d => by fin_cases d <;> assumption)))) $$ Hout
  ihave HP' := (show (six (sent m ρ c) : sProp 𝕄) ⊢ _ from by unfold six; exact BI.Entails.refl _) $$ HP
  icases HP' with ⟨P0, P1, P2, P3, P4, P5⟩
  iapply (step_sent m ρ K c 0 (ext_iff c 0) _ _) $$ [HO As0 P0]
  · unfold preSent; iframe HK HO As0 P0
  iintro H; imod H with ⟨HO, Z0, P0⟩
  iapply (step_sent m ρ K c 1 (ext_iff c 1) _ _) $$ [HO As1 P1]
  · unfold preSent; iframe HK HO As1 P1
  iintro H; imod H with ⟨HO, Z1, P1⟩
  iapply (step_sent m ρ K c 2 (ext_iff c 2) _ _) $$ [HO As2 P2]
  · unfold preSent; iframe HK HO As2 P2
  iintro H; imod H with ⟨HO, Z2, P2⟩
  iapply (step_sent m ρ K c 3 (ext_iff c 3) _ _) $$ [HO As3 P3]
  · unfold preSent; iframe HK HO As3 P3
  iintro H; imod H with ⟨HO, Z3, P3⟩
  iapply (step_sent m ρ K c 4 (ext_iff c 4) _ _) $$ [HO As4 P4]
  · unfold preSent; iframe HK HO As4 P4
  iintro H; imod H with ⟨HO, Z4, P4⟩
  iapply (step_sent m ρ K c 5 (ext_iff c 5) _ _) $$ [HO As5 P5]
  · unfold preSent; iframe HK HO As5 P5
  iintro H; imod H with ⟨HO, Z5, P5⟩
  iapply (wp_pure c _ _)
  iapply Hk
  ihave Hx := (x_join m ρ c) $$ [P0 P1 Hx]
  · iframe P0 P1 Hx
  ihave P2 := (stage_back m ρ c 2 rfl) $$ P2
  ihave P3 := (stage_back m ρ c 3 rfl) $$ P3
  ihave P4 := (stage_back m ρ c 4 rfl) $$ P4
  ihave P5 := (stage_back m ρ c 5 rfl) $$ P5
  unfold quiet six
  iframe HO HZ Z0 Z1 Z2 Z3 Z4 Z5 HR Hx Hout H0 H1 H2 H3 H4 H5 T0 T1 P2 P3 P4 P5

end Cert.Halo

end
-- ==== Proof.Deal.lean ====
/-
# What the launch deals

Every device owes its neighbours' cells from launch, so every cell's owner is dealt the credit for what it will receive: summed
over the mesh, what is owed to a device's cells is one barrier unit and one landing per neighbour. The duty tokens are minted at
the cells they belong to and carried to the devices that pay, along the exchange of (device, direction) with (neighbour,
direction back).
-/
module

public import proofs.«01_k».proof.Proof.Body

@[expose] public section

noncomputable section

namespace Cert.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The two ends of a link. -/
def swap : Dev nD × Dir ≃ Dev nD × Dir where
  toFun x := (nbr x.1 x.2, opp x.2)
  invFun x := (nbr x.1 x.2, opp x.2)
  left_inv x := Prod.ext (nbr_opp x.1 x.2) (opp_opp x.2)
  right_inv x := Prod.ext (nbr_opp x.1 x.2) (opp_opp x.2)

/-! ## Credit -/

/-- What device `c` receives: a barrier unit and a landing from every neighbour. -/
def gain (c : Dev nD) (b : Bool) (d : Dir) : CellTallies nD τ sig Unit :=
  if Has c d then (if b then tallyAt (recvCell c d) () N else tallyAt (barCell c) () 1) else 0
def gains (c : Dev nD) : CellTallies nD τ sig Unit := (∑ d, gain c false d) + ∑ d, gain c true d

theorem due_eq (c : Dev nD) (b : Bool) (d : Dir) : due c (b, d) = gain (nbr c d) b (opp d) := by
  have ho := has_opp c d
  unfold due gain
  by_cases h : Has c d
  · rw [if_pos h, if_pos (ho.trans h)]
  · rw [if_neg h, if_neg fun h' => h (ho.symm.trans h')]

/-- All that is owed, as sums over the directions. -/
theorem dues_eq (c : Dev nD) : dues c allDues = (∑ d, due c (false, d)) + ∑ d, due c (true, d) := by
  simp only [dues, Fin.sum_univ_six, zero_add]; ac_rfl

/-- Over the mesh, what is owed is what is received. -/
theorem sum_gain (b : Bool) : (∑ c, ∑ d, due c (b, d)) = ∑ c, ∑ d, gain c b d := by
  rw [← Fintype.sum_prod_type' (fun c d => due c (b, d)), ← Fintype.sum_prod_type' (fun c d => gain c b d)]
  exact Fintype.sum_equiv swap _ _ fun x => due_eq x.1 b x.2
theorem sum_dues : (∑ c, dues c allDues) = ∑ c, gains c := by
  simp only [dues_eq, gains, Finset.sum_add_distrib, sum_gain]

theorem gain_at (c : Dev nD) (b : Bool) (d : Dir) (g : GSem nD τ sig) (h : gain c b d g ≠ 0) : g.1 = (c.tc : Thread nD τ) := by
  unfold gain at h
  by_contra hg
  refine h ?_
  split
  · split
    · exact tallyAt_ne_cell (fun e : g = recvCell c d => hg (congrArg Prod.fst e)) _ _
    · exact tallyAt_ne_cell (fun e : g = barCell c => hg (congrArg Prod.fst e)) _ _
  · rfl
theorem gains_at (c : Dev nD) (g : GSem nD τ sig) (h : gains c g ≠ 0) : g.1 = (c.tc : Thread nD τ) := by
  by_contra hg
  refine h ?_
  have h0 (b : Bool) (d : Dir) : gain c b d g = 0 := by
    by_contra hz; exact hg (gain_at c b d g hz)
  unfold gains
  rw [Pi.add_apply, Finset.sum_apply, Finset.sum_apply, Finset.sum_eq_zero fun d _ => h0 false d,
    Finset.sum_eq_zero fun d _ => h0 true d, add_zero]

/-- The barrier units received add up to one per neighbour. -/
theorem sum_units (c : Dev nD) : (∑ d, gain c false d) = tallyAt (barCell c) () (deg c) := by
  have h (s : Finset Dir) : (∑ d ∈ s, gain c false d) = tallyAt (barCell c) () (s.filter fun d => Has c d).card := by
    induction s using Finset.induction_on with
    | empty => simp only [Finset.sum_empty, Finset.filter_empty, Finset.card_empty, tallyAt_zero]
    | insert a s ha ih =>
      rw [Finset.sum_insert ha, ih, Finset.filter_insert]
      unfold gain
      by_cases hh : Has c a
      · rw [if_pos hh, if_pos hh, Finset.card_insert_of_notMem fun hm => ha (Finset.mem_filter.mp hm).1, add_comm, ← tallyAt_add]
        rfl
      · rw [if_neg hh, if_neg hh, zero_add]
  exact h Finset.univ

/-- A device's launch credit: its barrier's units, and the landings. -/
theorem creds (c : Dev nD) :
    (Pipeline.launchCred (fun c => dues c allDues) c : sProp 𝕄) ⊢ iprop(cred (tallyAt (barCell c) () (deg c)) ∗ six (landCred c)) := by
  rw [Pipeline.launchCred_of_sum (fun c => dues c allDues) gains sum_dues gains_at c]
  unfold gains
  rw [sum_units]
  refine (cred_add _ _).1.trans (sep_mono_right ?_)
  rw [Pipeline.cred_finsetSum, all_six]
  refine Entails.of_eq (congrArg six (funext fun d => ?_))
  unfold gain landCred
  split
  · rfl
  · exact cred_zero

/-! ## Roles -/

/-- A statement for every semaphore of a device: the barrier, the six for sending, the six for receiving. -/
theorem all_roles (Φ : Role → sProp 𝕄) :
    bigSep Finset.univ Φ = iprop(Φ none ∗ six (fun d => Φ (some (false, d))) ∗ six (fun d => Φ (some (true, d)))) := by
  rw [show (Finset.univ : Finset Role) = insert none (Finset.univ.map Function.Embedding.some) from rfl,
    bigSep_insert (by simp), bigSep_map, bigSep_univ_prod, bigSep_univ_eq_bigSepL [false, true] (by decide) (by decide)]
  show iprop(Φ none ∗ (bigSep Finset.univ fun d : Dir => Φ (some (false, d))) ∗ (bigSep Finset.univ fun d : Dir => Φ (some (true, d)))) = _
  rw [all_six, all_six]

theorem kcell_injective : Function.Injective (kcell : Dev nD × Role → GSem nD τ sig) := fun x y h => by
  have h1 : x.1 = y.1 := congrArg (fun g : GSem nD τ sig => g.1.1) h
  exact Prod.ext h1 (csem_injective (congrArg Prod.snd h))
/-- All the cells of the exchange. -/
def allCells : Finset (GSem nD τ sig) := Finset.univ.map ⟨kcell, kcell_injective⟩

/-! ## Tokens -/

/-- The duty tokens as minted, by device, kind (barrier, send, receive) and direction. -/
def tokOf (x : (Dev nD × Dir) × Option Bool) : GSem nD τ sig × ℕ × Dir :=
  match x.2 with
  | none => (barCell x.1.1, 0, x.1.2)
  | some b => (kcell (x.1.1, some (b, x.1.2)), 0, 0)

theorem tokOf_injective : Function.Injective tokOf := by
  rintro ⟨⟨c, d⟩, b⟩ ⟨⟨c', d'⟩, b'⟩ h
  have hk {k k' : Role} {e e' : Dir} (h : (kcell (c, k), 0, e) = ((kcell (c', k'), 0, e') : GSem nD τ sig × ℕ × Dir)) :
      c = c' ∧ k = k' ∧ e = e' := by
    have h1 := kcell_injective (congrArg Prod.fst h)
    exact ⟨congrArg Prod.fst h1, congrArg Prod.snd h1, congrArg (fun x => x.2.2) h⟩
  match b, b' with
  | none, none => obtain ⟨rfl, -, rfl⟩ := hk (k := none) (k' := none) h; rfl
  | none, some b' => obtain ⟨-, h, -⟩ := hk (k := none) (k' := some (b', d')) h; cases h
  | some b, none => obtain ⟨-, h, -⟩ := hk (k := some (b, d)) (k' := none) h; cases h
  | some b, some b' => obtain ⟨rfl, h, -⟩ := hk (k := some (b, d)) (k' := some (b', d')) h; cases h; rfl
def allToks : Finset (GSem nD τ sig × ℕ × Dir) := Finset.univ.map ⟨tokOf, tokOf_injective⟩

/-- The tokens a device pays with. -/
def payToks (c : Dev nD) : sProp 𝕄 := iprop(six (barTok c) ∗ six (fun d => iprop(sendTok c d ∗ landTok c d)))

/-- The tokens, minted by cell, dealt to the devices that pay. -/
theorem toks_dealt : (bigSep allToks fun x => (dutyTok ER x.1 x.2.1 x.2.2 : sProp 𝕄)) ⊢ bigSep Finset.univ fun c : Dev nD => payToks c := by
  have hp (c : Dev nD) : (payToks c : sProp 𝕄)
      = bigSep Finset.univ fun d => iprop(barTok c d ∗ sendTok c d ∗ landTok c d) := by
    unfold payToks; rw [← all_six, ← all_six, ← bigSep_sep']
  rw [bigSep_congr fun c _ => hp c, ← bigSep_univ_prod (fun x : Dev nD × Dir => (iprop(barTok x.1 x.2 ∗ sendTok x.1 x.2 ∗ landTok x.1 x.2) : sProp 𝕄))]
  unfold allToks
  rw [bigSep_map]
  show (bigSep Finset.univ fun x => (dutyTok ER (tokOf x).1 (tokOf x).2.1 (tokOf x).2.2 : sProp 𝕄)) ⊢ _
  rw [bigSep_univ_prod,
    bigSep_congr fun x _ => bigSep_univ_eq_bigSepL [none, some false, some true] (by decide) (by decide)
      fun b : Option Bool => (dutyTok ER (tokOf (x, b)).1 (tokOf (x, b)).2.1 (tokOf (x, b)).2.2 : sProp 𝕄)]
  show (bigSep Finset.univ fun x : Dev nD × Dir => (iprop(dutyTok ER (barCell x.1) 0 x.2 ∗ sendTok x.1 x.2 ∗ dutyTok ER (recvCell x.1 x.2) 0 0) : sProp 𝕄)) ⊢ _
  rw [bigSep_sep', bigSep_sep', bigSep_sep', bigSep_sep',
    bigSep_univ_equiv swap (fun x : Dev nD × Dir => (dutyTok ER (barCell x.1) 0 x.2 : sProp 𝕄)),
    bigSep_univ_equiv swap (fun x : Dev nD × Dir => (dutyTok ER (recvCell x.1 x.2) 0 0 : sProp 𝕄))]
  exact BI.Entails.refl _

end Cert.Halo

end
-- ==== Proof.Launch.lean ====
/-
# The launch and the run

The program is one pallas_call on each of the sixteen devices: one point, the block fetched, the result flushed. The body's
obligation, the dealing of invariants, tokens and credit in one global step, and the run: every weakly fair execution
terminates with each device's result at `outAt`, its argument unchanged and every semaphore at zero, for any float values.
-/
module

public import proofs.«01_k».proof.Proof.Deal
public import Idealize.ShloMosaic.Lib.Pipeline.Launch
public import Idealize.ShloMosaic.Lib.Pipeline.Kit
public import Idealize.ShloMosaic.Lib.Pipeline.CollectiveSegs

@[expose] public section

noncomputable section

namespace Cert.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The exchange's records under some names. -/
def known : sProp 𝕄 := iprop(∃ K, records m ρ K)
instance known_persistent : BI.Persistent (known (F := F) m ρ) := by unfold known; infer_instance

/-- What device `c`'s body starts from beside its buffers, -/
def start (c : Dev nD) : sProp 𝕄 := iprop(known m ρ ∗ levAts L lv ∗ ghost c)
/-- and with its scratch buffers; -/
def before (c : Dev nD) : sProp 𝕄 := iprop(start m ρ c ∗ six (haloAny c) ∗ six (stageAny c))
/-- what it ends with. -/
def done (c : Dev nD) : sProp 𝕄 := iprop(quiet c ∗ six (haloAny c) ∗ six (stageAny c))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => before m ρ c
    | ⟨_ + 1, _⟩ => done c
  q _ := fullShare
  owed t := match t with
    | ⟨0, _⟩ => dues c allDues
    | ⟨_ + 1, _⟩ => 0

theorem fetch_0 (t : Fin cfg0.N) : (cfg0.win (0 : Fin 2)).fetch t = true := by rw [fin_N0 t]; rfl

/-! ## The body's obligation -/

/-- A staging buffer at given contents, as the pipeline states it. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

def bodyPre (c : Dev nD) : sProp 𝕄 :=
  iprop(before m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
def bodyPost (c : Dev nD) : sProp 𝕄 :=
  iprop(done c ∗ (dats m ρ 0 c).owesAt () t0_0.succ ∗ stg c cc0_stg0_0 (xstg m ρ c) ∗ stg c cc0_stg1_0 (outAt m ρ c))

theorem body_run (c : Dev nD) :
    (bodyPre m ρ c : sProp 𝕄) ⊢ wpc c (cc0_body (F := F) xM (Memref.isWhole_whole _) oM (Memref.isWhole_whole _) tM
      (Memref.isWhole_whole _) hM (Memref.isWhole_whole _) cc0_scratch2 cc0_scratch3) (fun _ => bodyPost m ρ c) := by
  unfold bodyPre before start known Dat.owesAt Pipeline.owesWithin
  iintro ⟨⟨⟨⟨%K, #HK⟩, #HL, HG⟩, HH, HT⟩, ⟨%W, -, HO⟩, ⟨%d0, %g0, %hg0, Hx⟩, ⟨%d1, %g1, -, Hout⟩⟩
  have hx : g0 = xstg m ρ c := by rw [hg0]; unfold Dat.before; rw [if_pos (fetch_0 t0_0)]; rfl
  subst hx
  iapply (sound_body m ρ K c fun _ => bodyPost m ρ c) $$ [HG HO HH HT Hx Hout]
  · iframe HK HL
    isplitl [HO]
    · unfold owing; iexists W; iexact HO
    isplitl [HG]; · iexact HG
    isplitl [Hx]; · unfold xWhole; iexact Hx
    isplitl [Hout]; · unfold outAny; iexists g1; iexact Hout
    iframe HH HT
  unfold owing bodyPost done Dat.owesAt Pipeline.owesWithin xWhole
  iintro ⟨⟨%W', HO⟩, HQ, Hx, Hout, HH, HT⟩
  iframe HQ HH HT
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

theorem body_obligation (c : Dev nD) : BodyObligation (dats (F := F) m ρ 0 c) (defs₀ (F := F)) 𝒱₀ () Set.univ := fun t => by
  rw [fin_N0 t]
  rw [bigSep_W0, bigSep_W0]
  simp only [owns_stg]
  exact body_run m ρ c

/-! ## The global step -/

theorem ownSemFacts : Pipeline.OwnSemFacts cfg0.spec osem := by decide

theorem share_eq (c : Dev nD) (w : Fin cfg0.W) : (dats m ρ 0 c).share w = fullShare := by unfold Dat.share; split <;> rfl

/-- The resources at launch: the pipeline's and the exchange's. -/
def u₀ : UU := (initOf (Pipeline.cells cfgs cellOf_inj) (Pipeline.launchToks cfgs cellOf_inj), initOf allCells allToks)

/-- A device's positions at its cells, and that their round is open. -/
def posns (c : Dev nD) : sProp 𝕄 := bigSep Finset.univ fun k : Role => atPos ER (kcell (c, k)) 0 ∅ 0
def opens (c : Dev nD) : sProp 𝕄 := bigSep Finset.univ fun k : Role => reached ER (kcell (c, k)) 0

/-- What the launch deals device `c`, and what the global step makes of it. -/
def G (c : Dev nD) : sProp 𝕄 :=
  iprop((bigSep Finset.univ fun k : Role => roundState ER (rd m ρ) (kcell (c, k)) 0) ∗ posns c ∗ opens c ∗ payToks c)
def G' (c : Dev nD) : sProp 𝕄 := iprop(known m ρ ∗ posns c ∗ payToks c)

theorem fund : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Role => Φ (kcell (c, k)) := by
    unfold allCells; rw [bigSep_map, bigSep_univ_prod]; rfl
  iintro HX
  imod (Rounds.fund ER (rd m ρ) allCells allToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (toks_dealt (F := F)) $$ Htok
  unfold G posns opens; simp only [bigSep_sep']
  iframe Hst' Hat' Hr' Htok'

/-- The kernel's own semaphores and the barrier semaphore, at zero, are the thirteen. -/
theorem ownSems_eq (c : Dev nD) : (Pipeline.ownSems0 (Ix := Unit) (Name := ℕ) (U := UU) (Lvl := ℕ) (Val := Elt F) (τ := τ) osem c : sProp 𝕄)
    = iprop(six (fun d => semVal (sendCell c d) 0) ∗ six (fun d => semVal (recvCell c d) 0)) := by
  unfold Pipeline.ownSems0
  rw [bigSep_univ_prod, bigSep_univ_eq_bigSepL [false, true] (by decide) (by decide)]
  show iprop((bigSep Finset.univ fun d : Dir => semVal (sendCell c d) 0) ∗ (bigSep Finset.univ fun d : Dir => semVal (recvCell c d) 0)) = _
  rw [all_six, all_six]
theorem unscopedSems_eq (c : Dev nD) : (unscopedSems0 c : sProp 𝕄) = semVal (barCell c) 0 := by
  unfold unscopedSems0; rw [bigSep_eq_bigSepL_of_eq [SemLoc.reg barS] (by decide) (by decide)]; rfl

theorem sems_eq (c : Dev nD) :
    iprop(Pipeline.ownSems0 (Ix := Unit) (Name := ℕ) (U := UU) (Lvl := ℕ) (Val := Elt F) (τ := τ) osem c ∗ unscopedSems0 c)
      ⊢ (bigSep Finset.univ fun k : Role => semVal (kcell (c, k)) 0 : sProp 𝕄) := by
  rw [ownSems_eq, unscopedSems_eq, all_roles]
  iintro ⟨⟨HS, HV⟩, HB⟩
  iframe HB HS HV

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd m ρ) κ (kcell (c, k)))) ∗ opens c ∗ posns c ∗ payToks c) := by
  unfold G
  iintro ⟨Hos, Hus, Hst, Hat, Hr, Htok⟩
  ihave Hv := (sems_eq (F := F) c) $$ [Hos Hus]
  · iframe Hos Hus
  imod (show iprop((bigSep Finset.univ fun k : Role => semVal (kcell (c, k)) 0) ∗ bigSep Finset.univ fun k : Role => roundState ER (rd m ρ) (kcell (c, k)) 0)
      ⊢ (|={Set.univ}=> bigSep Finset.univ fun k => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [Hv Hst] with Hinv
  · iframe Hv Hst
  imodintro
  iframe Hinv Hr Hat Htok

/-- All devices' invariants and marks are the records every device reads. -/
theorem regroup :
    (bigSep Finset.univ fun c : Dev nD =>
        iprop((bigSep Finset.univ fun k => iprop(∃ κ : ℕ, cellInv ER (rd m ρ) κ (kcell (c, k)))) ∗ opens c ∗ posns c ∗ payToks c) : sProp 𝕄)
      ⊢ bigSep Finset.univ (G' m ρ) := by
  unfold opens G'
  rw [bigSep_sep', bigSep_sep', bigSep_sep', ← bigSep_univ_prod (fun ck : Dev nD × Role => iprop(∃ κ : ℕ, cellInv ER (rd m ρ) κ (kcell ck))),
    ← bigSep_univ_prod (fun ck : Dev nD × Role => (reached ER (kcell ck) 0 : sProp 𝕄))]
  iintro ⟨HI, #HR, Hat, Htok⟩
  ihave HK := (BI.bigSep_exists_pi Finset.univ (fun (ck : Dev nD × Role) (κ : ℕ) => (cellInv ER (rd m ρ) κ (kcell ck) : sProp 𝕄))) $$ HI
  icases HK with ⟨%K, #HI⟩
  rw [bigSep_sep', bigSep_sep']
  iframe Hat Htok
  iapply (BI.bigSep_of_persistent Finset.univ (known (F := F) m ρ))
  unfold known records
  iexists K
  iframe HI HR

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## Entry and exit -/

theorem start_intro (c : Dev nD) :
    iprop(Pipeline.unscopedRestP Pipeline.Prefetch.none cfg0.spec c (fun b => m ((c : Thread nD τ).loc b)) ∗ levAts L lv
        ∗ Pipeline.launchCred (fun c => dues c allDues) c ∗ prngReg c (ρ c) ∗ G' m ρ c)
      ⊢ |={Set.univ}=> iprop(start m ρ c ∗ emp) := by
  unfold G' posns payToks start ghost
  rw [all_roles]
  iintro ⟨-, Hlev, Hcr, -, HK, ⟨PB, PS, PR⟩, TB, TS⟩
  ihave Hc := (creds (F := F) c) $$ Hcr
  icases Hc with ⟨HB, HC⟩
  imodintro
  iframe HK Hlev HB PB PS PR TB TS HC

theorem before_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before m ρ c from rfl, scopedRest0_eq]
  unfold before
  rw [← all_six, ← all_six]
  iintro ⟨Hs, -, HT, HH⟩
  iframe Hs
  isplitl [HH]
  · iapply (halo_split c); iexact HH
  · iapply (stage_split c); iexact HT

theorem done_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = done c from rfl, scopedRest0_eq, ownSems_eq, unscopedSems_eq]
  unfold done quiet
  rw [← all_six (haloAny c), ← all_six (stageAny c)]
  iintro ⟨⟨HB, HS, HR⟩, HH, HT⟩
  iframe HB HS HR
  isplitl [HT]
  · iapply (stage_join c (m ((c : Thread nD τ).loc cc0_scratch0))); iexact HT
  · iapply (halo_join c (m ((c : Thread nD τ).loc cc0_scratch1))); iexact HH

theorem waits (c : Dev nD) : (levAts L lv : sProp 𝕄) ⊢ Pipeline.cellsWaits cfgs (dats m ρ) () 0 c :=
  Pipeline.cellsWaits_intro cfgs (dats m ρ) () 0 c fun w s t => by
    have hs : lvOf (role (.dma ((cfg0.win w).sem s))) ≤ 0 := by fin_cases w <;> fin_cases s <;> decide
    rcases t with ⟨_ | _, ht⟩
    · exact mayWait_dues c _ 0 allDues hs (by decide)
    · exact mayWait_dues c _ 0 [] hs (by decide)

/-! ## The run -/

/-- The final contents of a window's array. -/
def finalA (c : Dev nD) (w : Fin cfg0.W) : Buf (Elt F) ((cfg0.win w).arr.view.loc (c : Thread nD τ)) := (dats m ρ 0 c).arrAt w cfg0.N

set_option maxRecDepth 8000 in
/-- Every weakly fair execution from zero counters terminates, with each window's array at its final contents and every counter at zero. -/
theorem run_arrays : θ_run defs (onTc (τ := τ) (main (F := F))) (s₀ m ρ) (fun r =>
    (∀ (c : Dev nD) (w : Fin cfg0.W), r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := fun c => dues c allDues) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      iframe HP HG)
    (hglob := glob m ρ)
    (hA := fun _ _ => rfl) (hpf := fun _ k => k.elim0)
    (X := start m ρ) (Y := fun c => unscopedSems0 c) (Z := fun _ => iprop(emp))
    (hX := start_intro m ρ) (hin := before_intro m ρ) (hout := done_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      iframe Hu HSI)
    (hQ := fun _ h hs => ⟨fun c w => (h c).1 w, sem_eq_zero hs fun c => (h c).2.2⟩)

/-- The argument's final contents are its first; the result's are what the body left. -/
theorem finalA_x (c : Dev nD) : finalA m ρ c (0 : Fin 2) = m ((c : Thread nD τ).loc main_arg0) :=
  (dats (F := F) m ρ 0 c).arrAt_in (0 : Fin 2) rfl _
theorem finalA_o (c : Dev nD) : finalA m ρ c (1 : Fin 2) = outAt m ρ c := by
  have h : (win0_1.blk (0 : Fin 1)).view.read (Elt F) (finalA m ρ c (1 : Fin 2)) = outAt m ρ c := by
    unfold finalA
    rw [show cfg0.N = ((0 : Fin 1) : Fin cfg0.N).val + 1 from rfl, (dats m ρ 0 c).arrAt_succ (1 : Fin 2) (0 : Fin 1)]
    rw [show (cfg0.win (1 : Fin 2)).flush (0 : Fin 1) = true from by decide, if_pos rfl]
    exact View.read_write_univ _ _
  rw [← h]
  exact (Memref.read_access_unit_zero (Elt F) main_v1 (funext fun a => by fin_cases a <;> decide) (fun a => by fin_cases a <;> decide) _).symm
/-- The block the body reads is the argument. -/
theorem xstg_eq (c : Dev nD) : xstg m ρ c = m ((c : Thread nD τ).loc main_arg0) :=
  Memref.read_access_unit_zero (Elt F) main_arg0 (funext fun a => by fin_cases a <;> decide) (fun a => by fin_cases a <;> decide) _

/-- The run, read at the argument and the result. -/
theorem run_main : θ_run defs (onTc (τ := τ) (main (F := F))) ⟨m, fun _ => 0, ρ⟩ (fun r =>
    (∀ c : Dev nD, r.2.mem ((c.tc : Thread nD τ).loc main_v1) = outAt m ρ c
      ∧ r.2.mem ((c.tc : Thread nD τ).loc main_arg0) = m ((c.tc : Thread nD τ).loc main_arg0)) ∧ r.2.sem = fun _ => 0) :=
  (θ_run defs _ _).mono (fun _ h => ⟨fun c => ⟨(h.1 c (1 : Fin 2)).trans (finalA_o m ρ c), (h.1 c (0 : Fin 2)).trans (finalA_x m ρ c)⟩, h.2⟩)
    (run_arrays m ρ)

end Cert.Halo

end
-- ==== Proof.Stencil.lean ====
/-
# The faces and the stencil at the ideal floats

Where sums are those of the extended reals, the block a device computes is, at a place not on the boundary of the whole array, the
sum of the six neighbouring values less six times the value itself — each neighbouring value out of the block, or out of a face
received where the block ends —, and zero on the boundary. The kernel adds the six in another order, and adds zeros where the block
ends; addition is commutative and associative on all extended reals, so the order does not matter.
-/
module

public import proofs.«01_k».proof.Proof.Body
public import Idealize.ShloMosaic.Lib.Pointwise

@[expose] public section

noncomputable section

namespace Cert.Halo

open Cert.KernelIdeal Cert.KernelIdeal.Gen

open Idealize.ShloMosaic
open Idealize.ShloMosaic.TcCoe

/-! ## The faces -/

section Faces
variable {F : FTy → Type} [FloatOps F] (x : FVec F S48x48x48 .f32) (a b : Fin 48)

/-- A square's place, in the plane it is cut from. -/
theorem plane_ix : shapeCast S48x48 (fun p : S1x48x48.Idx => p) shapeCasts_S1x48x48_S48x48 (ix2 a b) = ix3 0 a b := by
  pointwise

theorem face_0 : faceOf x 0 (ix2 a b) = x (ix3 0 a b) := by
  refine (congrArg (fun q => x (rLo.emb q)) (plane_ix a b)).trans (congrArg x (funext fun e => Fin.ext ?_))
  rw [Rect.emb_apply]
  fin_cases e
  · rfl
  · show 0 + 1 * a.val = a.val; omega
  · show 0 + 1 * b.val = b.val; omega
theorem face_1 : faceOf x 1 (ix2 a b) = x (ix3 47 a b) := by
  refine (congrArg (fun q => x (rHi.emb q)) (plane_ix a b)).trans (congrArg x (funext fun e => Fin.ext ?_))
  rw [Rect.emb_apply]
  fin_cases e
  · rfl
  · show 0 + 1 * a.val = a.val; omega
  · show 0 + 1 * b.val = b.val; omega
theorem face_2 : faceOf x 2 (ix2 a b) = x (ix3 a 0 b) := by
  show shapeCast S48x48 (k0_pay3 x) shapeCasts_S1x48x48_S48x48 (ix2 a b) = _
  pointwise [k0_pay3, k0_pay2]
theorem face_3 : faceOf x 3 (ix2 a b) = x (ix3 a 47 b) := by
  show shapeCast S48x48 (k0_pay4 x) shapeCasts_S1x48x48_S48x48 (ix2 a b) = _
  pointwise [k0_pay4, k0_pay2]
theorem face_4 : faceOf x 4 (ix2 a b) = x (ix3 a b 0) := by
  show shapeCast S48x48 (k0_pay5 x) shapeCasts_S1x48x48_S48x48 (ix2 a b) = _
  pointwise [k0_pay5, k0_pay2]
theorem face_5 : faceOf x 5 (ix2 a b) = x (ix3 a b 47) := by
  show shapeCast S48x48 (k0_pay6 x) shapeCasts_S1x48x48_S48x48 (ix2 a b) = _
  pointwise [k0_pay6, k0_pay2]

end Faces

/-! ## One axis -/

theorem zed_eq : (zed : Ideal .f32) = (0 : EReal) := by
  unfold zed; exact Ideal.ofBits_zero .f32

section Edge
variable (c : Dev nD) (d e : Dir) (ok : Prop) [Decidable ok] (i : Fin 48) (v h h' : EReal)

/-- What the faces add at place `i` of an axis. -/
def extra : EReal := if i.val < 1 then h else if i.val < 47 then 0 else h'

/-- Off the boundary, what the faces give is added; -/
theorem edge_ok (hi : (0 < i.val ∨ Has c d) ∧ (i.val < 47 ∨ Has c e)) (hok : ok) :
    edge (F := Ideal) c d e ok i v h h' = v + extra i h h' := by
  unfold edge extra upd
  split
  · rw [if_pos ⟨hok, hi.1.resolve_left (by omega)⟩]; rfl
  · split
    · rw [add_zero]
    · rw [if_pos ⟨hok, hi.2.resolve_left (by omega)⟩]; rfl
/-- at an end of the whole array along this axis the place is zero; -/
theorem edge_end (hi : ¬ ((0 < i.val ∨ Has c d) ∧ (i.val < 47 ∨ Has c e))) : edge (F := Ideal) c d e ok i v h h' = (0 : EReal) := by
  unfold edge upd
  split
  · rw [if_neg fun a => hi ⟨.inr a.2, .inl (by omega)⟩]; exact zed_eq
  · split
    · exact absurd ⟨Or.inl (by omega), Or.inl (by omega)⟩ hi
    · rw [if_neg fun a => hi ⟨.inl (by omega), .inr a.2⟩]; exact zed_eq
/-- at an end along another axis it stays zero. -/
theorem edge_zero (hok : ¬ ok) (hv : v = 0) : edge (F := Ideal) c d e ok i v h h' = (0 : EReal) := by
  unfold edge upd
  split
  · rw [if_neg fun a => hok a.1]; exact zed_eq
  · split
    · exact hv
    · rw [if_neg fun a => hok a.1]; exact zed_eq

end Edge

/-- The values before and after place `i` of an axis along which the block reads `f` and the faces are `h` and `h'`. -/
def prev (f : Fin 48 → EReal) (i : Fin 48) (h : EReal) : EReal := if hi : i.val < 1 then h else f ⟨i.val - 1, by omega⟩
def next (f : Fin 48 → EReal) (i : Fin 48) (h : EReal) : EReal := if hi : i.val < 47 then f ⟨1 + i.val, by omega⟩ else h

/-- The block's own neighbours with zeros beyond its ends, and what the faces add, are the two neighbours. -/
theorem prev_next (f : Fin 48 → EReal) (i : Fin 48) (h h' : EReal) :
    prev f i 0 + next f i 0 + extra i h h' = prev f i h + next f i h' := by
  unfold prev next extra
  by_cases h1 : i.val < 1
  · rw [dif_pos h1, dif_pos h1, if_pos h1, dif_pos (by omega), dif_pos (by omega), zero_add, add_comm]
  · rw [dif_neg h1, dif_neg h1, if_neg h1]
    by_cases h2 : i.val < 47
    · rw [dif_pos h2, dif_pos h2, if_pos h2, add_zero]
    · rw [dif_neg h2, dif_neg h2, if_neg h2, add_zero]

/-! ## The stencil -/

/-- Six, as both programs write it. -/
def sixC : EReal := FloatOps.ofBits (F := Ideal) .f32 1086324736#32

/-- The sum of six neighbours, less six times the value. -/
def lap (a b c d e f v : EReal) : EReal := a + b + c + d + e + f - sixC * v

theorem coreAt_eq (u : FVec Ideal S48x48x48 .f32) (i j k : Fin 48) :
    coreAt u i j k =
      (prev (fun i => u (ix3 i j k)) i 0 + next (fun i => u (ix3 i j k)) i 0
        + prev (fun j => u (ix3 i j k)) j 0 + next (fun j => u (ix3 i j k)) j 0 - sixC * u (ix3 i j k)
        + prev (fun k => u (ix3 i j k)) k 0 + next (fun k => u (ix3 i j k)) k 0 : EReal) := by
  unfold coreAt
  rw [zed_eq]; rfl

/-- The kernel's order of summation against the reference's. -/
theorem reorder {x x' y y' z z' ex ey ez X X' Y Y' Z Z' v : EReal} (hx : x + x' + ex = X + X') (hy : y + y' + ey = Y + Y') (hz : z + z' + ez = Z + Z') :
    x + x' + y + y' - v + z + z' + ex + ey + ez = X + X' + Y + Y' + Z + Z' - v := by
  rw [sub_eq_add_neg, sub_eq_add_neg]
  calc x + x' + y + y' + -v + z + z' + ex + ey + ez = (x + x' + ex) + (y + y' + ey) + (z + z' + ez) + -v := by ac_rfl
    _ = X + X' + Y + Y' + Z + Z' + -v := by rw [hx, hy, hz]; ac_rfl

/-- The block a device computes, at a place. -/
theorem zAt_eq (c : Dev nD) (u : FVec Ideal S48x48x48 .f32) (h : Dir → FVec Ideal S48x48 .f32) (i j k : Fin 48) :
    zAt c u h i j k =
      if okX c i ∧ okY c j ∧ okZ c k then
        lap (prev (fun i => u (ix3 i j k)) i (h 0 (ix2 j k))) (next (fun i => u (ix3 i j k)) i (h 1 (ix2 j k)))
          (prev (fun j => u (ix3 i j k)) j (h 2 (ix2 i k))) (next (fun j => u (ix3 i j k)) j (h 3 (ix2 i k)))
          (prev (fun k => u (ix3 i j k)) k (h 4 (ix2 i j))) (next (fun k => u (ix3 i j k)) k (h 5 (ix2 i j))) (u (ix3 i j k))
      else (0 : EReal) := by
  unfold zAt
  by_cases hz : okZ c k
  · by_cases hy : okY c j
    · by_cases hx : okX c i
      · rw [if_pos ⟨hx, hy, hz⟩, edge_ok _ _ _ _ _ _ _ _ hz ⟨hx, hy⟩]
        unfold yAt
        rw [edge_ok _ _ _ _ _ _ _ _ hy ⟨hx, hz⟩]
        unfold xAt
        rw [edge_ok _ _ _ _ _ _ _ _ hx ⟨hy, hz⟩, coreAt_eq]
        exact reorder (prev_next _ _ _ _) (prev_next _ _ _ _) (prev_next _ _ _ _)
      · rw [if_neg fun a => hx a.1]
        refine edge_zero _ _ _ _ _ _ _ _ (fun a => hx a.1) ?_
        refine edge_zero _ _ _ _ _ _ _ _ (fun a => hx a.1) ?_
        exact edge_end _ _ _ _ _ _ _ _ hx
    · rw [if_neg fun a => hy a.2.1]
      refine edge_zero _ _ _ _ _ _ _ _ (fun a => hy a.2) ?_
      exact edge_end _ _ _ _ _ _ _ _ hy
  · rw [if_neg fun a => hz a.2.2]
    exact edge_end _ _ _ _ _ _ _ _ hz

end Cert.Halo

end
-- ==== Proof.Ref.lean ====
/-
# The reference at a place

The reference pads the stencil of the whole array's interior with zeros: at a place off the boundary it is the sum of the six
neighbours less six times the value, and on the boundary it is zero.
-/
module

public import proofs.«01_k».proof.Proof.Gen.ReferenceIdeal.Run
public import Idealize.ShloMosaic.Lib.Pointwise

@[expose] public section

noncomputable section

namespace Cert.Halo

open Cert.ReferenceIdeal Cert.ReferenceIdeal.Gen

open Idealize.ShloMosaic
open Idealize.ShloMosaic.TcCoe

/-- The array's value at three natural numbers, zero outside. -/
def at3 (U : FVec Ideal S96x96x192 .f32) (a b e : ℕ) : EReal :=
  if h : a < 96 ∧ b < 96 ∧ e < 192 then U (ix3 ⟨a, h.1⟩ ⟨b, h.2.1⟩ ⟨e, h.2.2⟩) else 0

theorem at3_mk (U : FVec Ideal S96x96x192 .f32) {a b e : ℕ} (ha : a < 96) (hb : b < 96) (he : e < 192) :
    U (ix3 ⟨a, ha⟩ ⟨b, hb⟩ ⟨e, he⟩) = at3 U a b e := by
  unfold at3
  rw [dif_pos ⟨ha, hb, he⟩]

/-- What the reference leaves, of the array it is given. -/
def refOf (U : FVec Ideal S96x96x192 .f32) : FVec Ideal S96x96x192 .f32 :=
  pad S96x96x192 ![1, 1, 1] ![1, 1, 1] ![0, 0, 0]
    (subf (addf (addf (addf (addf (addf
        (extractStridedSlice S94x94x190 ![0, 1, 1] U slices_S96x96x192_S94x94x190_0_1_1)
        (extractStridedSlice S94x94x190 ![2, 1, 1] U slices_S96x96x192_S94x94x190_2_1_1))
        (extractStridedSlice S94x94x190 ![1, 0, 1] U slices_S96x96x192_S94x94x190_1_0_1))
        (extractStridedSlice S94x94x190 ![1, 2, 1] U slices_S96x96x192_S94x94x190_1_2_1))
        (extractStridedSlice S94x94x190 ![1, 1, 0] U slices_S96x96x192_S94x94x190_1_1_0))
        (extractStridedSlice S94x94x190 ![1, 1, 2] U slices_S96x96x192_S94x94x190_1_1_2))
      (mulf (broadcastInDim S94x94x190 ![] bcast_S_S94x94x190 (constant S_ .f32 0x40C00000#32))
        (extractStridedSlice S94x94x190 ![1, 1, 1] U slices_S96x96x192_S94x94x190_1_1_1)))
    (sitofp .f32 (constantI S_ 32 0#32)) pads_S94x94x190_S96x96x192_110_110_110 h_S_

theorem run_ref (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v15) = refOf (m ((c.tc : Thread nD τ).loc main_arg0))
        ∧ r.2.mem (c.tc.loc main_arg0) = m (c.tc.loc main_arg0)) :=
  Value.run m ρ

/-- The reference at a place. -/
theorem refOf_at (U : FVec Ideal S96x96x192 .f32) (i j : Fin 96) (k : Fin 192) :
    refOf U (ix3 i j k) =
      if (0 < i.val ∧ i.val < 95) ∧ (0 < j.val ∧ j.val < 95) ∧ 0 < k.val ∧ k.val < 191 then
        at3 U (i.val - 1) j.val k.val + at3 U (i.val + 1) j.val k.val + at3 U i.val (j.val - 1) k.val + at3 U i.val (j.val + 1) k.val
          + at3 U i.val j.val (k.val - 1) + at3 U i.val j.val (k.val + 1)
          - FloatOps.ofBits (F := Ideal) .f32 1086324736#32 * at3 U i.val j.val k.val
      else (0 : EReal) := by
  unfold refOf
  have h0 : (FloatOps.sitofp (F := Ideal) .f32 (0#32) : EReal) = 0 := by
    show (((0#32 : BitVec 32).toInt : ℝ) : EReal) = 0
    simp
  by_cases h : (0 < i.val ∧ i.val < 95) ∧ (0 < j.val ∧ j.val < 95) ∧ 0 < k.val ∧ k.val < 191
  · rw [if_pos h]
    pointwise
    rw [dif_pos (by omega)]
    simp only [at3_mk]
    rw [show 1 + (i.val - 1) = i.val by omega, show 2 + (i.val - 1) = i.val + 1 by omega,
      show 1 + (j.val - 1) = j.val by omega, show 2 + (j.val - 1) = j.val + 1 by omega,
      show 1 + (k.val - 1) = k.val by omega, show 2 + (k.val - 1) = k.val + 1 by omega]
  · rw [if_neg h]
    pointwise
    rw [dif_neg (by omega)]
    exact h0

end Cert.Halo

end
-- ==== Proof.Value.lean ====
/-
# The blocks are the reference's

Device `c` holds the block of the whole array that starts at 48 times its coordinates. What a device receives along a direction is
the plane of the whole array just beyond its block, so that its stencil reads the whole array at the six places around each of its
own; its places on the boundary of the whole array are those the reference pads with zero.
-/
module

public import proofs.«01_k».proof.Proof.Stencil
public import proofs.«01_k».proof.Proof.Launch
public import proofs.«01_k».proof.Proof.Ref

@[expose] public section

noncomputable section

namespace Cert.Halo

open Cert.KernelIdeal Cert.KernelIdeal.Gen

open Idealize.ShloMosaic
open Idealize.ShloMosaic.TcCoe

/-- Device `c`'s block of a whole array. -/
def blockOf (U : FVec Ideal ⟨3, ![96, 96, 192]⟩ .f32) (c : Dev nD) : FVec Ideal S48x48x48 .f32 :=
  Layout.blockN ⟨3, ![48, 48, 48]⟩ ⟨3, ![96, 96, 192]⟩ (Layout.meshBlock [2, 2, 4] ![[0], [1], [2]] c) U

/-- The number of a device's block along each axis. -/
theorem block_nums (c : Dev nD) :
    ((Layout.meshBlock [2, 2, 4] ![[0], [1], [2]] c) 0).val = c.val / 8
      ∧ ((Layout.meshBlock [2, 2, 4] ![[0], [1], [2]] c) 1).val = c.val / 4 % 2
      ∧ ((Layout.meshBlock [2, 2, 4] ![[0], [1], [2]] c) 2).val = c.val % 4 := by
  revert c; decide

/-- A block, at a place. -/
theorem blockOf_at (U : FVec Ideal ⟨3, ![96, 96, 192]⟩ .f32) (c : Dev nD) (i j k : Fin 48) :
    blockOf U c (ix3 i j k) =
      U (ix3 ⟨c.val / 8 * 48 + i.val, by have : c.val < 16 := c.isLt; omega⟩ ⟨c.val / 4 % 2 * 48 + j.val, by omega⟩ ⟨c.val % 4 * 48 + k.val, by omega⟩) := by
  obtain ⟨h0, h1, h2⟩ := block_nums c
  refine congrArg U (funext fun e => Fin.ext ?_)
  fin_cases e
  · show ((Layout.meshBlock [2, 2, 4] ![[0], [1], [2]] c) 0).val * 48 + i.val = _; rw [h0]; rfl
  · show ((Layout.meshBlock [2, 2, 4] ![[0], [1], [2]] c) 1).val * 48 + j.val = _; rw [h1]; rfl
  · show ((Layout.meshBlock [2, 2, 4] ![[0], [1], [2]] c) 2).val * 48 + k.val = _; rw [h2]; rfl

/-- The same, by the whole array's coordinates. -/
theorem blockOf_at3 (U : FVec Ideal ⟨3, ![96, 96, 192]⟩ .f32) (c : Dev nD) (i j k : Fin 48) {a b e : ℕ}
    (ha : c.val / 8 * 48 + i.val = a) (hb : c.val / 4 % 2 * 48 + j.val = b) (he : c.val % 4 * 48 + k.val = e) :
    blockOf U c (ix3 i j k) = at3 U a b e := by
  subst ha hb he
  rw [blockOf_at]; exact at3_mk U _ _ _

/-! ## The neighbours' coordinates -/

theorem nbr_x0 (c : Dev nD) (h : Has c 0) :
    (nbr c 0).val / 8 + 1 = c.val / 8 ∧ (nbr c 0).val / 4 % 2 = c.val / 4 % 2 ∧ (nbr c 0).val % 4 = c.val % 4 := by
  revert c; decide
theorem nbr_x1 (c : Dev nD) (h : Has c 1) :
    (nbr c 1).val / 8 = c.val / 8 + 1 ∧ (nbr c 1).val / 4 % 2 = c.val / 4 % 2 ∧ (nbr c 1).val % 4 = c.val % 4 := by
  revert c; decide
theorem nbr_y0 (c : Dev nD) (h : Has c 2) :
    (nbr c 2).val / 8 = c.val / 8 ∧ (nbr c 2).val / 4 % 2 + 1 = c.val / 4 % 2 ∧ (nbr c 2).val % 4 = c.val % 4 := by
  revert c; decide
theorem nbr_y1 (c : Dev nD) (h : Has c 3) :
    (nbr c 3).val / 8 = c.val / 8 ∧ (nbr c 3).val / 4 % 2 = c.val / 4 % 2 + 1 ∧ (nbr c 3).val % 4 = c.val % 4 := by
  revert c; decide
theorem nbr_z0 (c : Dev nD) (h : Has c 4) :
    (nbr c 4).val / 8 = c.val / 8 ∧ (nbr c 4).val / 4 % 2 = c.val / 4 % 2 ∧ (nbr c 4).val % 4 + 1 = c.val % 4 := by
  revert c; decide
theorem nbr_z1 (c : Dev nD) (h : Has c 5) :
    (nbr c 5).val / 8 = c.val / 8 ∧ (nbr c 5).val / 4 % 2 = c.val / 4 % 2 ∧ (nbr c 5).val % 4 = c.val % 4 + 1 := by
  revert c; decide

/-- Off the boundary of the whole array, along each axis. -/
theorem okX_iff (c : Dev nD) (i : Fin 48) : okX c i ↔ 0 < c.val / 8 * 48 + i.val ∧ c.val / 8 * 48 + i.val < 95 := by
  have h : (Has c 0 ↔ c.val / 8 = 1) ∧ (Has c 1 ↔ c.val / 8 = 0) := by revert c; decide
  have : c.val < 16 := c.isLt
  unfold okX; rw [h.1, h.2]; omega
theorem okY_iff (c : Dev nD) (j : Fin 48) : okY c j ↔ 0 < c.val / 4 % 2 * 48 + j.val ∧ c.val / 4 % 2 * 48 + j.val < 95 := by
  have h : (Has c 2 ↔ c.val / 4 % 2 = 1) ∧ (Has c 3 ↔ c.val / 4 % 2 = 0) := by revert c; decide
  unfold okY; rw [h.1, h.2]; omega
theorem okZ_iff (c : Dev nD) (k : Fin 48) : okZ c k ↔ 0 < c.val % 4 * 48 + k.val ∧ c.val % 4 * 48 + k.val < 191 := by
  have h : (Has c 4 ↔ ¬ c.val % 4 = 0) ∧ (Has c 5 ↔ ¬ c.val % 4 = 3) := by revert c; decide
  unfold okZ; rw [h.1, h.2]; omega

/-! ## The six values around a place -/

section Around
variable (U : FVec Ideal ⟨3, ![96, 96, 192]⟩ .f32) (c : Dev nD) (i j k : Fin 48)

/-- The face that device `c` receives along direction `d`. -/
def recvd (d : Dir) : FVec Ideal S48x48 .f32 := faceOf (F := Ideal) (blockOf U (nbr c d)) (opp d)

theorem around_x0 (h : okX c i) : prev (fun i => blockOf U c (ix3 i j k)) i (recvd U c 0 (ix2 j k))
    = at3 U (c.val / 8 * 48 + i.val - 1) (c.val / 4 % 2 * 48 + j.val) (c.val % 4 * 48 + k.val) := by
  unfold prev
  split
  · obtain ⟨h0, h1, h2⟩ := nbr_x0 c (h.1.resolve_left (by omega))
    exact (face_1 _ j k).trans (blockOf_at3 U (nbr c 0) 47 j k (by show _ * 48 + 47 = _; omega) (by rw [h1]) (by rw [h2]))
  · exact blockOf_at3 U c ⟨i.val - 1, _⟩ j k (by show _ + (i.val - 1) = _; omega) rfl rfl
theorem around_x1 (h : okX c i) : next (fun i => blockOf U c (ix3 i j k)) i (recvd U c 1 (ix2 j k))
    = at3 U (c.val / 8 * 48 + i.val + 1) (c.val / 4 % 2 * 48 + j.val) (c.val % 4 * 48 + k.val) := by
  unfold next
  split
  · exact blockOf_at3 U c ⟨1 + i.val, _⟩ j k (by show _ + (1 + i.val) = _; omega) rfl rfl
  · obtain ⟨h0, h1, h2⟩ := nbr_x1 c (h.2.resolve_left (by omega))
    exact (face_0 _ j k).trans (blockOf_at3 U (nbr c 1) 0 j k (by show _ * 48 + 0 = _; omega) (by rw [h1]) (by rw [h2]))
theorem around_y0 (h : okY c j) : prev (fun j => blockOf U c (ix3 i j k)) j (recvd U c 2 (ix2 i k))
    = at3 U (c.val / 8 * 48 + i.val) (c.val / 4 % 2 * 48 + j.val - 1) (c.val % 4 * 48 + k.val) := by
  unfold prev
  split
  · obtain ⟨h0, h1, h2⟩ := nbr_y0 c (h.1.resolve_left (by omega))
    exact (face_3 _ i k).trans (blockOf_at3 U (nbr c 2) i 47 k (by rw [h0]) (by show _ * 48 + 47 = _; omega) (by rw [h2]))
  · exact blockOf_at3 U c i ⟨j.val - 1, _⟩ k rfl (by show _ + (j.val - 1) = _; omega) rfl
theorem around_y1 (h : okY c j) : next (fun j => blockOf U c (ix3 i j k)) j (recvd U c 3 (ix2 i k))
    = at3 U (c.val / 8 * 48 + i.val) (c.val / 4 % 2 * 48 + j.val + 1) (c.val % 4 * 48 + k.val) := by
  unfold next
  split
  · exact blockOf_at3 U c i ⟨1 + j.val, _⟩ k rfl (by show _ + (1 + j.val) = _; omega) rfl
  · obtain ⟨h0, h1, h2⟩ := nbr_y1 c (h.2.resolve_left (by omega))
    exact (face_2 _ i k).trans (blockOf_at3 U (nbr c 3) i 0 k (by rw [h0]) (by show _ * 48 + 0 = _; omega) (by rw [h2]))
theorem around_z0 (h : okZ c k) : prev (fun k => blockOf U c (ix3 i j k)) k (recvd U c 4 (ix2 i j))
    = at3 U (c.val / 8 * 48 + i.val) (c.val / 4 % 2 * 48 + j.val) (c.val % 4 * 48 + k.val - 1) := by
  unfold prev
  split
  · obtain ⟨h0, h1, h2⟩ := nbr_z0 c (h.1.resolve_left (by omega))
    exact (face_5 _ i j).trans (blockOf_at3 U (nbr c 4) i j 47 (by rw [h0]) (by rw [h1]) (by show _ * 48 + 47 = _; omega))
  · exact blockOf_at3 U c i j ⟨k.val - 1, _⟩ rfl rfl (by show _ + (k.val - 1) = _; omega)
theorem around_z1 (h : okZ c k) : next (fun k => blockOf U c (ix3 i j k)) k (recvd U c 5 (ix2 i j))
    = at3 U (c.val / 8 * 48 + i.val) (c.val / 4 % 2 * 48 + j.val) (c.val % 4 * 48 + k.val + 1) := by
  unfold next
  split
  · exact blockOf_at3 U c i j ⟨1 + k.val, _⟩ rfl rfl (by show _ + (1 + k.val) = _; omega)
  · obtain ⟨h0, h1, h2⟩ := nbr_z1 c (h.2.resolve_left (by omega))
    exact (face_4 _ i j).trans (blockOf_at3 U (nbr c 5) i j 0 (by rw [h0]) (by rw [h1]) (by show _ * 48 + 0 = _; omega))

/-- The block a device computes is its block of what the reference computes, place by place. -/
theorem z_ref : zAt c (blockOf U c) (recvd U c) i j k = blockOf (refOf U) c (ix3 i j k) := by
  rw [zAt_eq, blockOf_at (refOf U), refOf_at]
  by_cases h : okX c i ∧ okY c j ∧ okZ c k
  · rw [if_pos h, if_pos ⟨(okX_iff c i).1 h.1, (okY_iff c j).1 h.2.1, (okZ_iff c k).1 h.2.2⟩,
      around_x0 U c i j k h.1, around_x1 U c i j k h.1, around_y0 U c i j k h.2.1, around_y1 U c i j k h.2.1,
      around_z0 U c i j k h.2.2, around_z1 U c i j k h.2.2, blockOf_at3 U c i j k rfl rfl rfl]
    rfl
  · rw [if_neg h, if_neg fun a => h ⟨(okX_iff c i).2 a.1, (okY_iff c j).2 a.2.1, (okZ_iff c k).2 a.2.2⟩]

end Around

/-- Where every device's argument is its block of one array, every device's result is its block of the reference's. -/
theorem outAt_ref (m : (ℓ : Loc nD τ sig) → Buf (Elt Ideal) ℓ) (ρ : Dev nD → PrngReg) (U : FVec Ideal ⟨3, ![96, 96, 192]⟩ .f32)
    (hm : ∀ c : Dev nD, m ((c : Thread nD τ).loc main_arg0) = blockOf U c) (c : Dev nD) : outAt m ρ c = blockOf (refOf U) c := by
  have hx : ∀ c, xstg m ρ c = blockOf U c := fun c => (xstg_eq m ρ c).trans (hm c)
  funext p
  obtain ⟨i, j, k, rfl⟩ : ∃ i j k, p = ix3 i j k := ⟨_, _, _, eq_ix3 p⟩
  show zAt c (xstg m ρ c) (fun d => faceOf (xstg m ρ (nbr c d)) (opp d)) i j k = _
  rw [hx, show (fun d => faceOf (xstg m ρ (nbr c d)) (opp d)) = recvd U c from funext fun d => by rw [hx]; rfl]
  exact z_ref U c i j k

end Cert.Halo

end
-- ==== Proof.Same.lean ====
/-
# One program, printed twice

The kernel and its idealization are the same text, so what is proved of one at any floats holds of the other. The kernels' bodies
are equal by unfolding, label by label, and with them the tables that hold them.
-/
module

public import proofs.«01_k».proof.Proof.Gen.Kernel
public import proofs.«01_k».proof.Proof.Gen.KernelIdeal

@[expose] public section

noncomputable section

namespace Cert.Halo

open Idealize.ShloMosaic

attribute [local instance] Cert.Kernel.Gen.facts Cert.KernelIdeal.Gen.facts

variable {F : FTy → Type} [FloatOps F]

theorem body_same : Cert.Kernel.cc0_body (F := F) = Cert.KernelIdeal.cc0_body (F := F) := rfl

theorem bodies_same : Cert.Kernel.defs₀ (F := F) = Cert.KernelIdeal.defs₀ (F := F) := by
  unfold Cert.Kernel.defs₀ Cert.KernelIdeal.defs₀
  refine congrArg Defs.onTc (funext fun l => funext fun a => ?_)
  rcases l with ⟨_ | n, hl⟩
  · exact congrArg (fun b => b (Cert.KernelIdeal.win0_0.stage (a.2 0)) (Cert.KernelIdeal.Facts₀.hstage0_0 0) (Cert.KernelIdeal.win0_1.stage (a.2 1))
      (Cert.KernelIdeal.Facts₀.hstage0_1 0) (Memref.whole Cert.KernelIdeal.cc0_scratch0) (Memref.isWhole_whole _)
      (Memref.whole Cert.KernelIdeal.cc0_scratch1) (Memref.isWhole_whole _) Cert.KernelIdeal.cc0_scratch2 Cert.KernelIdeal.cc0_scratch3) (body_same (F := F))
  · exact absurd hl (by omega)

theorem defs_same : Cert.Kernel.defs (F := F) = Cert.KernelIdeal.defs (F := F) :=
  congrArg (Pipeline.defs Cert.KernelIdeal.pcfgs) bodies_same

end Cert.Halo

end
-- ==== Proof.lean ====
/-
# The claim

The kernel runs to the end on every mesh of sixteen devices, leaves its argument alone and every semaphore at zero — at the machine's
floats and at the ideal ones —, and at the ideal ones leaves on each device that device's block of what the reference leaves.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import proofs.«01_k».proof.Proof.Same
public import Idealize.ShloMosaic.Adequacy
public import Idealize.ShloMosaic.Init

@[expose] public section

noncomputable section

namespace Cert.Proof

open Idealize.ShloMosaic Idealize.SL.Sem Cert.Kernel

/-- The frame, whatever the floats. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0) :=
  (θ_run Cert.KernelIdeal.defs _ _).mono (fun _ h => ⟨fun c => (h.1 c).2, h.2⟩) (Cert.Halo.run_main (F := F) m ρ)

/-- The two readings of the kernel are one program's text. -/
theorem frame_kernel : Cert.quiescent_Kernel := fun m ρ _ =>
  (congrArg (fun D => θ_run D (onTc (τ := Cert.KernelIdeal.τ) (Cert.KernelIdeal.main (F := Bits))) ⟨m, fun _ => 0, ρ⟩ (fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0))
    Cert.Halo.defs_same).mpr (frame_any (F := Bits) m ρ)

theorem frame_kernelIdeal : Cert.quiescent_KernelIdeal := fun m ρ _ => frame_any (F := Ideal) m ρ

/-- The reference has no semaphores. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.Halo.run_ref m ρ)

/-- The kernel's blocks are those of the reference's result. -/
theorem value : Cert.algebraic_KernelIdeal_ReferenceIdeal := fun m g m' g' _ hm =>
  ⟨Cert.Halo.refOf (m' (((0 : Dev 1).tc : Thread Cert.ReferenceIdeal.nD Cert.ReferenceIdeal.τ).loc Cert.ReferenceIdeal.main_arg0)),
    (θ_run Cert.KernelIdeal.defs _ _).mono (fun _ h c => ⟨(h.1 c).1.trans (Cert.Halo.outAt_ref m g _ hm c), (h.1 c).2⟩)
      (Cert.Halo.run_main (F := Ideal) m g),
    (θ_run Cert.ReferenceIdeal.defs _ _).mono (fun _ h => h 0) (Cert.Halo.run_ref m' g')⟩

theorem claim : Cert.Claim :=
  ⟨Cert.Kernel.Gen.facts, Cert.KernelIdeal.Gen.facts, Cert.ReferenceIdeal.Gen.facts,
    frame_kernel, frame_kernelIdeal, frame_reference, trivial, value⟩

end Cert.Proof

end
